-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![64, 2048]⟩ ⟨2, ![64, 4096]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 2048]⟩ ⟨2, ![64, 4096]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S6x512x2048 : Shape := ⟨3, ![6, 512, 2048]⟩
abbrev S10x512x1024 : Shape := ⟨3, ![10, 512, 1024]⟩
abbrev S6x64x2048 : Shape := ⟨3, ![6, 64, 2048]⟩
abbrev S6x64x1024 : Shape := ⟨3, ![6, 64, 1024]⟩
abbrev S6 : Shape := ⟨1, ![6]⟩
abbrev S10 : Shape := ⟨1, ![10]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S64x512 : Shape := ⟨2, ![64, 512]⟩
abbrev S1x64x2048 : Shape := ⟨3, ![1, 64, 2048]⟩
abbrev S1x512x1024 : Shape := ⟨3, ![1, 512, 1024]⟩
abbrev S512x1024 : Shape := ⟨2, ![512, 1024]⟩
abbrev S64x1024 : Shape := ⟨2, ![64, 1024]⟩
abbrev S1x64x1024 : Shape := ⟨3, ![1, 64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S6x512x2048, .f32⟩
  | .local _ .vmem, ⟨3, _⟩ => ⟨S10x512x1024, .f32⟩
  | .local _ .vmem, ⟨4, _⟩ => ⟨S6x64x2048, .bf16⟩
  | .local _ .vmem, ⟨5, _⟩ => ⟨S6x64x2048, .bf16⟩
  | .local _ .vmem, ⟨6, _⟩ => ⟨S6x64x1024, .bf16⟩
  | .local _ .vmem, ⟨7, _⟩ => ⟨S6x64x1024, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v39 : BitVec 32 := Scalar.muli v2 c2_i32_33
  let v40 : BitVec 32 := Scalar.addi c0_i32_34 v39
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v41 : BitVec 32 := Scalar.muli v6 c1_i32_35
  let v42 : BitVec 32 := Scalar.addi v40 v41
  v42.toNat
def k0_dev2 (d0 : Dev nD) : Nat :=
  let c0_i32_38 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_37 : BitVec 32 := 2#32
  let v43 : BitVec 32 := Scalar.muli v7 c2_i32_37
  let v44 : BitVec 32 := Scalar.addi c0_i32_38 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v45 : BitVec 32 := Scalar.muli v5 c1_i32_39
  let v46 : BitVec 32 := Scalar.addi v44 v45
  v46.toNat
def k0_dev3 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v117 : BitVec 32 := Scalar.muli v2 c2_i32_109
  let v118 : BitVec 32 := Scalar.addi c0_i32_110 v117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v119 : BitVec 32 := Scalar.muli v6 c1_i32_111
  let v120 : BitVec 32 := Scalar.addi v118 v119
  v120.toNat
def k0_dev4 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v196 : BitVec 32 := Scalar.muli v2 c2_i32_185
  let v197 : BitVec 32 := Scalar.addi c0_i32_186 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v198 : BitVec 32 := Scalar.muli v6 c1_i32_187
  let v199 : BitVec 32 := Scalar.addi v197 v198
  v199.toNat
def k0_dev5 (d0 : Dev nD) : Nat :=
  let c0_i32_433 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_432 : BitVec 32 := 2#32
  let v441 : BitVec 32 := Scalar.muli v7 c2_i32_432
  let v442 : BitVec 32 := Scalar.addi c0_i32_433 v441
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_434 : BitVec 32 := 1#32
  let v443 : BitVec 32 := Scalar.muli v5 c1_i32_434
  let v444 : BitVec 32 := Scalar.addi v442 v443
  v444.toNat
def k0_dev6 (d0 : Dev nD) : Nat :=
  let c0_i32_573 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_572 : BitVec 32 := 2#32
  let v584 : BitVec 32 := Scalar.muli v7 c2_i32_572
  let v585 : BitVec 32 := Scalar.addi c0_i32_573 v584
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_574 : BitVec 32 := 1#32
  let v586 : BitVec 32 := Scalar.muli v5 c1_i32_574
  let v587 : BitVec 32 := Scalar.addi v585 v586
  v587.toNat
def k0_dev7 (d0 : Dev nD) : Nat :=
  let c0_i32_703 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_702 : BitVec 32 := 2#32
  let v711 : BitVec 32 := Scalar.muli v2 c2_i32_702
  let v712 : BitVec 32 := Scalar.addi c0_i32_703 v711
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_704 : BitVec 32 := 1#32
  let v713 : BitVec 32 := Scalar.muli v6 c1_i32_704
  let v714 : BitVec 32 := Scalar.addi v712 v713
  v714.toNat
def k0_dev8 (d0 : Dev nD) : Nat :=
  let c0_i32_781 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_780 : BitVec 32 := 2#32
  let v790 : BitVec 32 := Scalar.muli v2 c2_i32_780
  let v791 : BitVec 32 := Scalar.addi c0_i32_781 v790
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_782 : BitVec 32 := 1#32
  let v792 : BitVec 32 := Scalar.muli v6 c1_i32_782
  let v793 : BitVec 32 := Scalar.addi v791 v792
  v793.toNat
def k0_dev9 (d0 : Dev nD) : Nat :=
  let c0_i32_977 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_976 : BitVec 32 := 2#32
  let v985 : BitVec 32 := Scalar.muli v7 c2_i32_976
  let v986 : BitVec 32 := Scalar.addi c0_i32_977 v985
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_978 : BitVec 32 := 1#32
  let v987 : BitVec 32 := Scalar.muli v5 c1_i32_978
  let v988 : BitVec 32 := Scalar.addi v986 v987
  v988.toNat
def k0_dev10 (d0 : Dev nD) : Nat :=
  let c0_i32_1119 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1118 : BitVec 32 := 2#32
  let v1128 : BitVec 32 := Scalar.muli v7 c2_i32_1118
  let v1129 : BitVec 32 := Scalar.addi c0_i32_1119 v1128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1120 : BitVec 32 := 1#32
  let v1130 : BitVec 32 := Scalar.muli v5 c1_i32_1120
  let v1131 : BitVec 32 := Scalar.addi v1129 v1130
  v1131.toNat
def k0_dev11 (d0 : Dev nD) : Nat :=
  let c0_i32_1237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1236 : BitVec 32 := 2#32
  let v1245 : BitVec 32 := Scalar.muli v2 c2_i32_1236
  let v1246 : BitVec 32 := Scalar.addi c0_i32_1237 v1245
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1238 : BitVec 32 := 1#32
  let v1247 : BitVec 32 := Scalar.muli v6 c1_i32_1238
  let v1248 : BitVec 32 := Scalar.addi v1246 v1247
  v1248.toNat
def k0_dev12 (d0 : Dev nD) : Nat :=
  let c0_i32_1291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1290 : BitVec 32 := 2#32
  let v1304 : BitVec 32 := Scalar.muli v2 c2_i32_1290
  let v1305 : BitVec 32 := Scalar.addi c0_i32_1291 v1304
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1292 : BitVec 32 := 1#32
  let v1306 : BitVec 32 := Scalar.muli v6 c1_i32_1292
  let v1307 : BitVec 32 := Scalar.addi v1305 v1306
  v1307.toNat
def k0_dev13 (d0 : Dev nD) : Nat :=
  let c0_i32_1475 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1474 : BitVec 32 := 2#32
  let v1489 : BitVec 32 := Scalar.muli v7 c2_i32_1474
  let v1490 : BitVec 32 := Scalar.addi c0_i32_1475 v1489
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1476 : BitVec 32 := 1#32
  let v1491 : BitVec 32 := Scalar.muli v5 c1_i32_1476
  let v1492 : BitVec 32 := Scalar.addi v1490 v1491
  v1492.toNat
def k0_dev14 (d0 : Dev nD) : Nat :=
  let c0_i32_1569 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1568 : BitVec 32 := 2#32
  let v1592 : BitVec 32 := Scalar.muli v7 c2_i32_1568
  let v1593 : BitVec 32 := Scalar.addi c0_i32_1569 v1592
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1570 : BitVec 32 := 1#32
  let v1594 : BitVec 32 := Scalar.muli v5 c1_i32_1570
  let v1595 : BitVec 32 := Scalar.addi v1593 v1594
  v1595.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x4096 : Shape := ⟨2, ![64, 4096]⟩
abbrev S4096x8192 : Shape := ⟨2, ![4096, 8192]⟩
abbrev S8192x4096 : Shape := ⟨2, ![8192, 4096]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x8192, .f32⟩
  | .hbm, ⟨2, _⟩ => ⟨S8192x4096, .f32⟩
  | .hbm, ⟨3, _⟩ => ⟨S4096x8192, .f32⟩
  | .hbm, ⟨4, _⟩ => ⟨S8192x4096, .f32⟩
  | .hbm, ⟨5, _⟩ => ⟨S4096x8192, .f32⟩
  | .hbm, ⟨6, _⟩ => ⟨S8192x4096, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x4096, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x4096, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Prog.lean ====
/-
  The kernel's body, read off as a program over its three layers.

  The printed body is one straight line of about three hundred memory operations.  Here it is written again with the
  structure the source has: two streams of weight chunks (24 chunks of the first weights through six slots, 48 of the
  second through ten), a pass of products over a stream, and an exchange of a partial sum with one partner.  That
  the printed body IS this program (`body_eq`) is by unfolding.
-/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Body

open Cert.KernelIdeal Cert.KernelIdeal.Gen
open Idealize.ShloMosaic Idealize.ShloMosaic.TcCoe Idealize.SL.Sem

variable {F : FTy → Type} [FloatOps F]

variable (F) in
/-- Programs of the kernel's core. -/
abbrev KProg (α : Type) := Prog (TpuEff nD τ sig (Elt F) Λ₀ .tc) α

/-! ## The partners -/

/-- The device a signal or transfer along the second mesh axis is addressed to, at its first use and at slot `k`. -/
def yDev (k : Fin 6) (d : Dev nD) : Dev nD :=
  match k with
  | 0 => ⟨k0_dev3 d, k0_dev3_lt d⟩
  | 1 => ⟨k0_dev4 d, k0_dev4_lt d⟩
  | 2 => ⟨k0_dev7 d, k0_dev7_lt d⟩
  | 3 => ⟨k0_dev8 d, k0_dev8_lt d⟩
  | 4 => ⟨k0_dev11 d, k0_dev11_lt d⟩
  | 5 => ⟨k0_dev12 d, k0_dev12_lt d⟩

/-- The device a transfer along the first mesh axis is addressed to, at slot `k`. -/
def xDev (k : Fin 6) (d : Dev nD) : Dev nD :=
  match k with
  | 0 => ⟨k0_dev5 d, k0_dev5_lt d⟩
  | 1 => ⟨k0_dev6 d, k0_dev6_lt d⟩
  | 2 => ⟨k0_dev9 d, k0_dev9_lt d⟩
  | 3 => ⟨k0_dev10 d, k0_dev10_lt d⟩
  | 4 => ⟨k0_dev13 d, k0_dev13_lt d⟩
  | 5 => ⟨k0_dev14 d, k0_dev14_lt d⟩

/-! ## The stream of the first weights: chunk `g` of 24, slot `g % 6` -/

set_option backward.proofsInPublic true in
/-- The slot of chunk `g`. -/
def inSlot (g : ℕ) : Fin 6 := ⟨g % 6, Nat.mod_lt _ (by decide)⟩

theorem inb_inSem (k : Fin 6) : ∀ a, (![k.val] : Fin 1 → ℕ) a + S1.size a ≤ S6.size a := by revert k; decide
theorem inb_inSlot (k : Fin 6) : ∀ a, (![k.val, 0, 0] : Fin 3 → ℕ) a + S1x512x2048.size a ≤ S6x512x2048.size a := by revert k; decide
theorem inb_inSrc (i : Fin 4) (j : Fin 2) : ∀ a, (![512 * i.val, 2048 * j.val] : Fin 2 → ℕ) a + S512x2048.size a ≤ S2048x4096.size a := by
  revert i j; decide

/-- The semaphore of slot `k`. -/
def inSem (k : Fin 6) : DmaSem sig := ((cc0_scratch6.slice (Rect.unit (s := S6) ![k.val] S1.size (inb_inSem k))).squeeze S_ squeezes_S1_S_).sem
/-- Slot `k` of the buffer, and the rectangle it is. -/
def inRect (k : Fin 6) : Rect S6x512x2048 := Rect.unit (s := S6x512x2048) ![k.val, 0, 0] S1x512x2048.size (inb_inSlot k)
def inDst (k : Fin 6) : Memref sig .tc .vmem S512x2048 .f32 :=
  ((Memref.whole cc0_scratch0).slice (inRect k) (fun _ => rfl)).squeeze S512x2048 squeezes_S1x512x2048_S512x2048
/-- The first weights of layer `l`. -/
def inArr (l : ℕ) : Memref sig .tc .hbm S2048x4096 .f32 :=
  match l with
  | 0 => Memref.whole main_arg1
  | 1 => Memref.whole main_arg3
  | _ => Memref.whole main_arg5
set_option backward.proofsInPublic true in
/-- The rows and the columns chunk `g` is of. -/
def inRow (g : ℕ) : Fin 4 := ⟨g % 4, Nat.mod_lt _ (by decide)⟩
set_option backward.proofsInPublic true in
def inCol (g : ℕ) : Fin 2 := ⟨g / 4 % 2, Nat.mod_lt _ (by decide)⟩
def inSrcRect (i : Fin 4) (j : Fin 2) : Rect S2048x4096 := Rect.unit (s := S2048x4096) ![512 * i.val, 2048 * j.val] S512x2048.size (inb_inSrc i j)
/-- Chunk `g`. -/
def inSrc (g : ℕ) : Memref sig .tc .hbm S512x2048 .f32 := (inArr (g / 8)).slice (inSrcRect (inRow g) (inCol g)) (fun _ => rfl)

/-- Start the transfer of chunk `g` into its slot, where there is a chunk `g`. -/
def inStart (g : ℕ) : KProg F PUnit :=
  if g < 24 then
    Prog.lift (.enqueueDma (inSrc g) (.here (inDst (inSlot g))) (.dma (inSem (inSlot g))) (View.wordExact_bits rfl) ((View.wordExact_bits rfl).reshape _ _) ⟨Or.inl rfl, trivial⟩)
  else pure ⟨⟩
/-- Wait for chunk `g`. -/
def inWait (g : ℕ) : KProg F PUnit :=
  Prog.lift (.waitDma2 (inSem (inSlot g)) (inSrc g) (inDst (inSlot g)) (View.wordExact_bits rfl) ((View.wordExact_bits rfl).reshape _ _))
/-- Read the slot of chunk `g`. -/
def inLoad (g : ℕ) : KProg F (Vec F S1x512x2048 .f32) :=
  Prog.lift (.load (Memref.whole cc0_scratch0) (inRect (inSlot g)).toLoadRect (View.loadsAt_vmem h_S1x512x2048))

/-! ## The stream of the second weights: chunk `g` of 48, slot `g % 10` -/

set_option backward.proofsInPublic true in
/-- The slot of chunk `g`. -/
def outSlot (g : ℕ) : Fin 10 := ⟨g % 10, Nat.mod_lt _ (by decide)⟩

theorem inb_outSem (k : Fin 10) : ∀ a, (![k.val] : Fin 1 → ℕ) a + S1.size a ≤ S10.size a := by revert k; decide
theorem inb_outSlot (k : Fin 10) : ∀ a, (![k.val, 0, 0] : Fin 3 → ℕ) a + S1x512x1024.size a ≤ S10x512x1024.size a := by revert k; decide
theorem inb_outSrc (i : Fin 8) (j : Fin 2) : ∀ a, (![512 * i.val, 1024 * j.val] : Fin 2 → ℕ) a + S512x1024.size a ≤ S4096x2048.size a := by
  revert i j; decide

/-- The semaphore of slot `k`. -/
def outSem (k : Fin 10) : DmaSem sig := ((cc0_scratch7.slice (Rect.unit (s := S10) ![k.val] S1.size (inb_outSem k))).squeeze S_ squeezes_S1_S_).sem
/-- Slot `k` of the buffer, and the rectangle it is. -/
def outRect (k : Fin 10) : Rect S10x512x1024 := Rect.unit (s := S10x512x1024) ![k.val, 0, 0] S1x512x1024.size (inb_outSlot k)
def outDst (k : Fin 10) : Memref sig .tc .vmem S512x1024 .f32 :=
  ((Memref.whole cc0_scratch1).slice (outRect k) (fun _ => rfl)).squeeze S512x1024 squeezes_S1x512x1024_S512x1024
/-- The second weights of layer `l`. -/
def outArr (l : ℕ) : Memref sig .tc .hbm S4096x2048 .f32 :=
  match l with
  | 0 => Memref.whole main_arg2
  | 1 => Memref.whole main_arg4
  | _ => Memref.whole main_arg6
set_option backward.proofsInPublic true in
/-- The rows and the columns chunk `g` is of. -/
def outRow (g : ℕ) : Fin 8 := ⟨g % 8, Nat.mod_lt _ (by decide)⟩
set_option backward.proofsInPublic true in
def outCol (g : ℕ) : Fin 2 := ⟨g / 8 % 2, Nat.mod_lt _ (by decide)⟩
def outSrcRect (i : Fin 8) (j : Fin 2) : Rect S4096x2048 := Rect.unit (s := S4096x2048) ![512 * i.val, 1024 * j.val] S512x1024.size (inb_outSrc i j)
/-- Chunk `g`. -/
def outSrc (g : ℕ) : Memref sig .tc .hbm S512x1024 .f32 := (outArr (g / 16)).slice (outSrcRect (outRow g) (outCol g)) (fun _ => rfl)

/-- Start the transfer of chunk `g` into its slot, where there is a chunk `g`. -/
def outStart (g : ℕ) : KProg F PUnit :=
  if g < 48 then
    Prog.lift (.enqueueDma (outSrc g) (.here (outDst (outSlot g))) (.dma (outSem (outSlot g))) (View.wordExact_bits rfl) ((View.wordExact_bits rfl).reshape _ _) ⟨Or.inl rfl, trivial⟩)
  else pure ⟨⟩
/-- Wait for chunk `g`. -/
def outWait (g : ℕ) : KProg F PUnit :=
  Prog.lift (.waitDma2 (outSem (outSlot g)) (outSrc g) (outDst (outSlot g)) (View.wordExact_bits rfl) ((View.wordExact_bits rfl).reshape _ _))
/-- Read the slot of chunk `g`. -/
def outLoad (g : ℕ) : KProg F (Vec F S1x512x1024 .f32) :=
  Prog.lift (.load (Memref.whole cc0_scratch1) (outRect (outSlot g)).toLoadRect (View.loadsAt_vmem h_S1x512x1024))

/-! ## The exchanges: six slots each way, each used once -/

theorem inb_ySlot (k : Fin 6) : ∀ a, (![k.val, 0, 0] : Fin 3 → ℕ) a + S1x64x2048.size a ≤ S6x64x2048.size a := by revert k; decide
theorem inb_xSlot (k : Fin 6) : ∀ a, (![k.val, 0, 0] : Fin 3 → ℕ) a + S1x64x1024.size a ≤ S6x64x1024.size a := by revert k; decide

/-- Slot `k` of the buffers of the exchange along the second axis. -/
def yRect (k : Fin 6) : Rect S6x64x2048 := Rect.unit (s := S6x64x2048) ![k.val, 0, 0] S1x64x2048.size (inb_ySlot k)
/-- Slot `k` of the buffers of the exchange along the first axis. -/
def xRect (k : Fin 6) : Rect S6x64x1024 := Rect.unit (s := S6x64x1024) ![k.val, 0, 0] S1x64x1024.size (inb_xSlot k)

theorem words_y (k : Fin 6) : (yRect k).WholeWords (EltTy.packing .bf16) :=
  match k with
  | 0 => wordsbf16_S6x64x2048_S1x64x2048_0_0_0
  | 1 => wordsbf16_S6x64x2048_S1x64x2048_1_0_0
  | 2 => wordsbf16_S6x64x2048_S1x64x2048_2_0_0
  | 3 => wordsbf16_S6x64x2048_S1x64x2048_3_0_0
  | 4 => wordsbf16_S6x64x2048_S1x64x2048_4_0_0
  | 5 => wordsbf16_S6x64x2048_S1x64x2048_5_0_0
theorem words_x (k : Fin 6) : (xRect k).WholeWords (EltTy.packing .bf16) :=
  match k with
  | 0 => wordsbf16_S6x64x1024_S1x64x1024_0_0_0
  | 1 => wordsbf16_S6x64x1024_S1x64x1024_1_0_0
  | 2 => wordsbf16_S6x64x1024_S1x64x1024_2_0_0
  | 3 => wordsbf16_S6x64x1024_S1x64x1024_3_0_0
  | 4 => wordsbf16_S6x64x1024_S1x64x1024_4_0_0
  | 5 => wordsbf16_S6x64x1024_S1x64x1024_5_0_0
theorem packed_y (k : Fin 6) : (yRect k).PackedRows (EltTy.packing .bf16) :=
  match k with
  | 0 => packedbf16_S6x64x2048_S1x64x2048_0_0_0
  | 1 => packedbf16_S6x64x2048_S1x64x2048_1_0_0
  | 2 => packedbf16_S6x64x2048_S1x64x2048_2_0_0
  | 3 => packedbf16_S6x64x2048_S1x64x2048_3_0_0
  | 4 => packedbf16_S6x64x2048_S1x64x2048_4_0_0
  | 5 => packedbf16_S6x64x2048_S1x64x2048_5_0_0
theorem packed_x (k : Fin 6) : (xRect k).PackedRows (EltTy.packing .bf16) :=
  match k with
  | 0 => packedbf16_S6x64x1024_S1x64x1024_0_0_0
  | 1 => packedbf16_S6x64x1024_S1x64x1024_1_0_0
  | 2 => packedbf16_S6x64x1024_S1x64x1024_2_0_0
  | 3 => packedbf16_S6x64x1024_S1x64x1024_3_0_0
  | 4 => packedbf16_S6x64x1024_S1x64x1024_4_0_0
  | 5 => packedbf16_S6x64x1024_S1x64x1024_5_0_0

/-- The buffers a device sends from and receives into. -/
abbrev ySendB : Memref sig .tc .vmem S6x64x2048 .bf16 := Memref.whole cc0_scratch2
abbrev yRecvB : Memref sig .tc .vmem S6x64x2048 .bf16 := Memref.whole cc0_scratch3
abbrev xSendB : Memref sig .tc .vmem S6x64x1024 .bf16 := Memref.whole cc0_scratch4
abbrev xRecvB : Memref sig .tc .vmem S6x64x1024 .bf16 := Memref.whole cc0_scratch5

/-- Slot `k` of such a buffer, as a transfer names it. -/
def ySlotOf (b : Memref sig .tc .vmem S6x64x2048 .bf16) (k : Fin 6) : Memref sig .tc .vmem S64x2048 .bf16 :=
  (b.slice (yRect k) (fun _ => rfl)).squeeze S64x2048 squeezes_S1x64x2048_S64x2048
def xSlotOf (b : Memref sig .tc .vmem S6x64x1024 .bf16) (k : Fin 6) : Memref sig .tc .vmem S64x1024 .bf16 :=
  (b.slice (xRect k) (fun _ => rfl)).squeeze S64x1024 squeezes_S1x64x1024_S64x1024

/-- Semaphore `k` of one of the four arrays of six. -/
def exSem (a : DmaSems sig S6) (k : Fin 6) : DmaSem sig := ((a.slice (Rect.unit (s := S6) ![k.val] S1.size (inb_inSem k))).squeeze S_ squeezes_S1_S_).sem

theorem exact_y {b : Memref sig .tc .vmem S6x64x2048 .bf16} (h : b.IsWhole) (k : Fin 6) : (ySlotOf b k).view.WordExact :=
  (h.wordExact_slice rfl _ (words_y k)).reshape _ _
theorem exact_x {b : Memref sig .tc .vmem S6x64x1024 .bf16} (h : b.IsWhole) (k : Fin 6) : (xSlotOf b k).view.WordExact :=
  (h.wordExact_slice rfl _ (words_x k)).reshape _ _

/-- Put `v` in slot `k` and send the slot to the partner along the second axis. -/
def ySend (d : Dev nD) (k : Fin 6) (v : FVec F S64x2048 .f32) : KProg F PUnit := do
  let _ ← Prog.lift (.load ySendB (yRect k).toLoadRect (View.loadsAt_vmem h_S1x64x2048))
  Prog.lift (.store ySendB (yRect k) (shapeCast S1x64x2048 (truncf .bf16 v bitsLt_bf16_f32) shapeCasts_S64x2048_S1x64x2048) Finset.univ
    (View.stores_vmem h_S1x64x2048 ((Memref.isWhole_whole cc0_scratch2).storeExact_slice rfl _ (packed_y k)) (fun _ => rfl)) (.inl rfl))
  Prog.lift (.enqueueDma (ySlotOf ySendB k) (.remote (Dev.tc (yDev k d)) (ySlotOf yRecvB k) (.dma (exSem cc0_scratch8 k))) (.dma (exSem cc0_scratch9 k))
    (exact_y (Memref.isWhole_whole cc0_scratch2) k) (exact_y (Memref.isWhole_whole cc0_scratch3) k) ⟨⟨rfl, Or.inl rfl⟩, trivial⟩)

/-- Put `v` in slot `k` and send the slot to the partner along the first axis. -/
def xSend (d : Dev nD) (k : Fin 6) (v : FVec F S64x1024 .f32) : KProg F PUnit := do
  let _ ← Prog.lift (.load xSendB (xRect k).toLoadRect (View.loadsAt_vmem h_S1x64x1024))
  Prog.lift (.store xSendB (xRect k) (shapeCast S1x64x1024 (truncf .bf16 v bitsLt_bf16_f32) shapeCasts_S64x1024_S1x64x1024) Finset.univ
    (View.stores_vmem h_S1x64x1024 ((Memref.isWhole_whole cc0_scratch4).storeExact_slice rfl _ (packed_x k)) (fun _ => rfl)) (.inl rfl))
  Prog.lift (.enqueueDma (xSlotOf xSendB k) (.remote (Dev.tc (xDev k d)) (xSlotOf xRecvB k) (.dma (exSem cc0_scratch10 k))) (.dma (exSem cc0_scratch11 k))
    (exact_x (Memref.isWhole_whole cc0_scratch4) k) (exact_x (Memref.isWhole_whole cc0_scratch5) k) ⟨⟨rfl, Or.inl rfl⟩, trivial⟩)

/-- Wait for both ends of slot `k`'s exchange and read what was sent and what was received. -/
def yGet (k : Fin 6) : KProg F (Vec F S1x64x2048 .bf16 × Vec F S1x64x2048 .bf16) := do
  Prog.lift (.waitDma2 (exSem cc0_scratch8 k) (ySlotOf yRecvB k) (ySlotOf ySendB k) (exact_y (Memref.isWhole_whole cc0_scratch3) k) (exact_y (Memref.isWhole_whole cc0_scratch2) k))
  Prog.lift (.waitDma2 (exSem cc0_scratch9 k) (ySlotOf ySendB k) (ySlotOf yRecvB k) (exact_y (Memref.isWhole_whole cc0_scratch2) k) (exact_y (Memref.isWhole_whole cc0_scratch3) k))
  let a ← Prog.lift (.load ySendB (yRect k).toLoadRect (View.loadsAt_vmem h_S1x64x2048))
  let b ← Prog.lift (.load yRecvB (yRect k).toLoadRect (View.loadsAt_vmem h_S1x64x2048))
  pure (a, b)
def xGet (k : Fin 6) : KProg F (Vec F S1x64x1024 .bf16 × Vec F S1x64x1024 .bf16) := do
  Prog.lift (.waitDma2 (exSem cc0_scratch10 k) (xSlotOf xRecvB k) (xSlotOf xSendB k) (exact_x (Memref.isWhole_whole cc0_scratch5) k) (exact_x (Memref.isWhole_whole cc0_scratch4) k))
  Prog.lift (.waitDma2 (exSem cc0_scratch11 k) (xSlotOf xSendB k) (xSlotOf xRecvB k) (exact_x (Memref.isWhole_whole cc0_scratch4) k) (exact_x (Memref.isWhole_whole cc0_scratch5) k))
  let a ← Prog.lift (.load xSendB (xRect k).toLoadRect (View.loadsAt_vmem h_S1x64x1024))
  let b ← Prog.lift (.load xRecvB (xRect k).toLoadRect (View.loadsAt_vmem h_S1x64x1024))
  pure (a, b)

/-! ## The arithmetic -/

/-- Both halves of a partial sum along the second axis added, the negative entries made zero. -/
def reluSum (p : Vec F S1x64x2048 .bf16 × Vec F S1x64x2048 .bf16) : FVec F S64x2048 .bf16 :=
  truncf .bf16 (maximumf (addf (extf .f32 (shapeCast S64x2048 p.1 shapeCasts_S1x64x2048_S64x2048 : FVec F S64x2048 .bf16) bitsLt_bf16_f32)
    (extf .f32 (shapeCast S64x2048 p.2 shapeCasts_S1x64x2048_S64x2048 : FVec F S64x2048 .bf16) bitsLt_bf16_f32))
      (broadcast S64x2048 (Scalar.ofBits .f32 0x00000000#32))) bitsLt_bf16_f32
/-- Both halves of a partial sum along the first axis added, -/
def plainSum (p : Vec F S1x64x1024 .bf16 × Vec F S1x64x1024 .bf16) : FVec F S64x1024 .f32 :=
  addf (extf .f32 (shapeCast S64x1024 p.1 shapeCasts_S1x64x1024_S64x1024 : FVec F S64x1024 .bf16) bitsLt_bf16_f32)
    (extf .f32 (shapeCast S64x1024 p.2 shapeCasts_S1x64x1024_S64x1024 : FVec F S64x1024 .bf16) bitsLt_bf16_f32)

/-- A left operand of 512 columns by a chunk of the first weights. -/
def inDot (a : FVec F S64x512 .bf16) (w : Vec F S1x512x2048 .f32) : FVec F S64x2048 .f32 :=
  matmul dot_S64x512_S512x2048_S64x2048_1_0_0_1_n_n none a
    (truncf .bf16 (shapeCast S512x2048 w shapeCasts_S1x512x2048_S512x2048 : FVec F S512x2048 .f32) bitsLt_bf16_f32) (constant S64x2048 .f32 0x00000000#32)
/-- A left operand of 512 columns by a chunk of the second weights. -/
def outDot (a : FVec F S64x512 .bf16) (w : Vec F S1x512x1024 .f32) : FVec F S64x1024 .f32 :=
  matmul dot_S64x512_S512x1024_S64x1024_1_0_0_1_n_n none a
    (truncf .bf16 (shapeCast S512x1024 w shapeCasts_S1x512x1024_S512x1024 : FVec F S512x1024 .f32) bitsLt_bf16_f32) (constant S64x1024 .f32 0x00000000#32)

/-- Four pieces of 512 columns of a matrix of 2048, and the two of one of 1024. -/
def piece0 (v : FVec F S64x2048 .bf16) : FVec F S64x512 .bf16 := extractStridedSlice S64x512 ![0, 0] v slices_S64x2048_o0_0_S64x512
def piece1 (v : FVec F S64x2048 .bf16) : FVec F S64x512 .bf16 := extractStridedSlice S64x512 ![0, 512] v slices_S64x2048_o0_512_S64x512
def piece2 (v : FVec F S64x2048 .bf16) : FVec F S64x512 .bf16 := extractStridedSlice S64x512 ![0, 1024] v slices_S64x2048_o0_1024_S64x512
def piece3 (v : FVec F S64x2048 .bf16) : FVec F S64x512 .bf16 := extractStridedSlice S64x512 ![0, 1536] v slices_S64x2048_o0_1536_S64x512
def half0 (v : FVec F S64x1024 .bf16) : FVec F S64x512 .bf16 := extractStridedSlice S64x512 ![0, 0] v slices_S64x1024_o0_0_S64x512
def half1 (v : FVec F S64x1024 .bf16) : FVec F S64x512 .bf16 := extractStridedSlice S64x512 ![0, 512] v slices_S64x1024_o0_512_S64x512

/-! ## The passes -/

/-- Take chunk `g` off the first stream: wait for it, read it, start the chunk six later. -/
def inTake (g : ℕ) : KProg F (Vec F S1x512x2048 .f32) := do
  inWait g
  let w ← inLoad g
  inStart (g + 6)
  pure w
/-- Take chunk `g` off the first stream, the left operand obtained once the chunk is there. -/
def inTakeWith {α : Type} (g : ℕ) (get : KProg F α) : KProg F (α × Vec F S1x512x2048 .f32) := do
  inWait g
  let a ← get
  let w ← inLoad g
  inStart (g + 6)
  pure (a, w)
/-- Take chunk `g` off the second stream. -/
def outTake (g : ℕ) : KProg F (Vec F S1x512x1024 .f32) := do
  outWait g
  let w ← outLoad g
  outStart (g + 10)
  pure w

/-- Two pieces of a left operand. -/
abbrev Two (F : FTy → Type) : Type := FVec F S64x512 .bf16 × FVec F S64x512 .bf16

/-- The product of four pieces by the chunks `g … g + 3` of the first stream, added from the left. -/
def inPass (g : ℕ) (get0 get1 : KProg F (Two F)) : KProg F (Two F × Two F × FVec F S64x2048 .f32) := do
  let (a, w0) ← inTakeWith g get0
  let w1 ← inTake (g + 1)
  let (b, w2) ← inTakeWith (g + 2) get1
  let w3 ← inTake (g + 3)
  pure (a, b, addf (addf (addf (inDot a.1 w0) (inDot a.2 w1)) (inDot b.1 w2)) (inDot b.2 w3))

/-- The product of eight pieces by the chunks `g … g + 7` of the second stream, added from the left. -/
def outPass (g : ℕ) (get0 get1 : KProg F (FVec F S64x2048 .bf16)) :
    KProg F (FVec F S64x2048 .bf16 × FVec F S64x2048 .bf16 × FVec F S64x1024 .f32) := do
  let a ← get0
  let w0 ← outTake g
  let w1 ← outTake (g + 1)
  let w2 ← outTake (g + 2)
  let w3 ← outTake (g + 3)
  let b ← get1
  let w4 ← outTake (g + 4)
  let w5 ← outTake (g + 5)
  let w6 ← outTake (g + 6)
  let w7 ← outTake (g + 7)
  pure (a, b, addf (addf (addf (addf (addf (addf (addf (outDot (piece0 a) w0) (outDot (piece1 a) w1)) (outDot (piece2 a) w2)) (outDot (piece3 a) w3))
    (outDot (piece0 b) w4)) (outDot (piece1 b) w5)) (outDot (piece2 b) w6)) (outDot (piece3 b) w7))

/-- Start the first ten chunks of the second stream. -/
def outFill : KProg F PUnit := do
  outStart 0
  outStart 1
  outStart 2
  outStart 3
  outStart 4
  outStart 5
  outStart 6
  outStart 7
  outStart 8
  outStart 9

/-- Start the first six chunks of the first stream. -/
def inFill : KProg F PUnit := do
  inStart 0
  inStart 1
  inStart 2
  inStart 3
  inStart 4
  inStart 5

set_option backward.proofsInPublic true in
/-- The two exchange slots of layer `l`. -/
def slotA (l : Fin 3) : Fin 6 := ⟨2 * l.val, by omega⟩
set_option backward.proofsInPublic true in
def slotB (l : Fin 3) : Fin 6 := ⟨2 * l.val + 1, by omega⟩

/-- The hidden activations received at slot `k`. -/
def yRelu (k : Fin 6) : KProg F (FVec F S64x2048 .bf16) := do
  let p ← yGet k
  pure (reluSum p)
/-- Half of a layer's result, received at slot `k`, as the next layer's left operand. -/
def xTwo (k : Fin 6) : KProg F (Two F) := do
  let p ← xGet k
  pure (half0 (truncf .bf16 (plainSum p) bitsLt_bf16_f32), half1 (truncf .bf16 (plainSum p) bitsLt_bf16_f32))

/-- The first half of layer `l`: the products by the first weights, each sent when it is there. -/
def layerIn (d : Dev nD) (l : Fin 3) (get0 get1 : KProg F (Two F)) : KProg F PUnit := do
  let (a, b, p0) ← inPass (8 * l.val) get0 get1
  ySend d (slotA l) p0
  let (_, _, p1) ← inPass (8 * l.val + 4) (pure a) (pure b)
  ySend d (slotB l) p1

/-- The second half of layer `l`: the products by the second weights, each sent when it is there. -/
def layerOut (d : Dev nD) (l : Fin 3) : KProg F PUnit := do
  let (a, b, q0) ← outPass (16 * l.val) (yRelu (slotA l)) (yRelu (slotB l))
  xSend d (slotA l) q0
  let (_, _, q1) ← outPass (16 * l.val + 8) (pure a) (pure b)
  xSend d (slotB l) q1

/-- Signal both partners that the receive buffers are there, and wait for both. -/
def handshake (d : Dev nD) : KProg F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- The device's columns of the input, rounded. -/
def actOf (v : Vec F S64x2048 .f32) : FVec F S64x2048 .bf16 :=
  truncf .bf16 (shapeCast S64x2048 v shapeCasts_S64x2048_S64x2048 : FVec F S64x2048 .f32) bitsLt_bf16_f32

/-- Half of the result, received at slot 4 or 5, stored at column `1024 j`. -/
def outHalf0 (oM : Memref sig .tc .vmem S64x2048 .f32) : KProg F PUnit := do
  let p ← xGet 4
  let _ ← Prog.lift (.load oM (Rect.unit (s := S64x2048) ![0, 0] S64x1024.size inb_S64x2048_S64x1024_0_0).toLoadRect (View.loadsAt_vmem h_S64x1024))
  Prog.lift (.store oM (Rect.unit (s := S64x2048) ![0, 0] S64x1024.size inb_S64x2048_S64x1024_0_0) (plainSum p) Finset.univ
    (View.stores_vmem_bits_univ h_S64x1024 rfl) (.inl rfl))
def outHalf1 (oM : Memref sig .tc .vmem S64x2048 .f32) : KProg F PUnit := do
  let p ← xGet 5
  let _ ← Prog.lift (.load oM (Rect.unit (s := S64x2048) ![0, 1024] S64x1024.size inb_S64x2048_S64x1024_0_1024).toLoadRect (View.loadsAt_vmem h_S64x1024))
  Prog.lift (.store oM (Rect.unit (s := S64x2048) ![0, 1024] S64x1024.size inb_S64x2048_S64x1024_0_1024) (plainSum p) Finset.univ
    (View.stores_vmem_bits_univ h_S64x1024 rfl) (.inl rfl))

/-- The body on device `d`: input in `xM`, result in `oM`. -/
def bodyOn (xM oM : Memref sig .tc .vmem S64x2048 .f32) (d : Dev nD) : KProg F PUnit := do
  inFill
  handshake d
  let v ← Prog.lift (.load xM (Rect.unit (s := S64x2048) ![0, 0] S64x2048.size inb_S64x2048_S64x2048_0_0).toLoadRect (View.loadsAt_vmem h_S64x2048))
  layerIn d 0 (pure (piece0 (actOf v), piece1 (actOf v))) (pure (piece2 (actOf v), piece3 (actOf v)))
  outFill
  layerOut d 0
  layerIn d 1 (xTwo (slotA 0)) (xTwo (slotB 0))
  layerOut d 1
  layerIn d 2 (xTwo (slotA 1)) (xTwo (slotB 1))
  layerOut d 2
  outHalf0 oM
  outHalf1 oM

/-- The body. -/
def body (xM oM : Memref sig .tc .vmem S64x2048 .f32) : KProg F PUnit := do
  let d ← Prog.lift .deviceId
  bodyOn xM oM d

/-- The printed body is this program. -/
theorem body_eq (t : Fin cfg0.N) : bodyAt0 (F := F) t = body (st0_0 t) (st0_1 t) := by chain_rfl

end Cert.KernelIdeal.Body

end
-- ==== Proof.KernelIdeal.Setup.lean ====
/-
  What the run of the kernel rests on: the resources, the two partners, what each device sends and receives, and the
  schedule of the semaphores the devices share.

  Device `c` exchanges with `mate 0 c` along the second mesh axis and with `mate 1 c` along the first.  Per layer it
  sends two partial sums each way: twelve exchanges in all, the `i`-th of them along axis `ax i` through slot `sl i`.
  A slot is used once, so each of the four semaphores of a slot has one round, with one duty: the sender's transfer.
  The runtime's barrier semaphore has two duties, one per partner, each handing over the partner's receive slots.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.Rounds
public import Idealize.ShloMosaic.Lib.Rounds.Family

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds, the exchanges' rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ)

/-! ## The partners -/

set_option backward.proofsInPublic true in
/-- The partner along the second mesh axis, -/
def py (c : Dev nD) : Dev nD := ⟨c.val / 2 * 2 + (c.val + 1) % 2, by have : c.val < 4 := c.isLt; show _ < 4; omega⟩
set_option backward.proofsInPublic true in
/-- and along the first. -/
def px (c : Dev nD) : Dev nD := ⟨(c.val + 2) % 4, by show _ < 4; omega⟩
/-- The partner of the exchanges along axis `a`. -/
def mate (a : Fin 2) (c : Dev nD) : Dev nD := match a with | 0 => py c | 1 => px c

theorem py_py (c : Dev nD) : py (py c) = c := by revert c; decide
theorem px_px (c : Dev nD) : px (px c) = c := by revert c; decide
theorem mate_mate (a : Fin 2) (c : Dev nD) : mate a (mate a c) = c := by revert a c; decide
theorem py_ne_px (c : Dev nD) : py c ≠ px c := by revert c; decide
theorem dev1_eq (c : Dev nD) : (⟨k0_dev1 c, k0_dev1_lt c⟩ : Dev nD) = py c := by revert c; decide
theorem dev2_eq (c : Dev nD) : (⟨k0_dev2 c, k0_dev2_lt c⟩ : Dev nD) = px c := by revert c; decide
theorem yDev_eq (k : Fin 6) (c : Dev nD) : yDev k c = py c := by revert k c; decide
theorem xDev_eq (k : Fin 6) (c : Dev nD) : xDev k c = px c := by revert k c; decide

/-- Each axis's partner map, as a permutation of the devices. -/
def mates (a : Fin 2) : Dev nD ≃ Dev nD := ⟨mate a, mate a, mate_mate a, mate_mate a⟩

/-! ## The order of the exchanges -/

set_option backward.proofsInPublic true in
/-- The axis of the `i`-th exchange, -/
def ax (i : ℕ) : Fin 2 := ⟨i / 2 % 2, Nat.mod_lt _ (by decide)⟩
set_option backward.proofsInPublic true in
/-- its slot, -/
def sl (i : ℕ) : Fin 6 := ⟨(2 * (i / 4) + i % 2) % 6, Nat.mod_lt _ (by decide)⟩
/-- and the place of an axis's slot in that order. -/
def ord (a : Fin 2) (k : Fin 6) : ℕ := 4 * (k.val / 2) + 2 * a.val + k.val % 2

theorem ord_at (i : Fin 12) : ord (ax i.val) (sl i.val) = i.val := by revert i; decide
theorem ord_lt (a : Fin 2) (k : Fin 6) : ord a k < 12 := by revert a k; decide
theorem ax_ord (a : Fin 2) (k : Fin 6) : ax (ord a k) = a := by revert a k; decide
theorem sl_ord (a : Fin 2) (k : Fin 6) : sl (ord a k) = k := by revert a k; decide

/-! ## The shared semaphores -/

/-- The runtime's barrier semaphore. -/
abbrev barS : Sem sig := (SemArray.scalar (sig.barrier 0 rfl) : Sems sig S_).sem

/-- A device's shared semaphores: the barrier; or slot `k`'s along axis `a`, the sending end's or the receiving end's. -/
abbrev CK : Type := Option (Bool × Fin 2 × Fin 6)

def exArr : Bool → Fin 2 → DmaSems sig S6
  | false, 0 => cc0_scratch8
  | true, 0 => cc0_scratch9
  | false, 1 => cc0_scratch10
  | true, 1 => cc0_scratch11

def csem : CK → SemLoc sig
  | none => .reg barS
  | some (b, a, k) => .dma (exSem (exArr b a) k)

set_option backward.proofsInPublic true in
/-- Which of them a semaphore is. -/
def ckOf : SemLoc sig → Option CK
  | .reg s => if s = barS then some none else none
  | .dma q => if 18 ≤ q.val ∧ q.val < 42 then
      some (some (decide ((q.val - 18) / 6 % 2 = 1), ⟨(q.val - 18) / 12 % 2, Nat.mod_lt _ (by decide)⟩, ⟨(q.val - 18) % 6, Nat.mod_lt _ (by decide)⟩))
    else none

theorem ckOf_ex (b : Bool) (a : Fin 2) (k : Fin 6) : ckOf (csem (some (b, a, k))) = some (some (b, a, k)) := by revert b a k; decide
theorem ckOf_csem (ck : CK) : ckOf (csem ck) = some ck := by
  rcases ck with _ | ⟨b, a, k⟩
  · decide
  · exact ckOf_ex b a k

abbrev cell (c : Dev nD) (ck : CK) : GSem nD τ sig := ((c : Thread nD τ), csem ck)
abbrev barCell (c : Dev nD) : GSem nD τ sig := cell c none
abbrev sndCell (a : Fin 2) (k : Fin 6) (c : Dev nD) : GSem nD τ sig := cell c (some (false, a, k))
abbrev rcvCell (a : Fin 2) (k : Fin 6) (c : Dev nD) : GSem nD τ sig := cell c (some (true, a, k))

theorem csem_injective : Function.Injective csem := fun x y h => by
  have := congrArg ckOf h; rw [ckOf_csem, ckOf_csem] at this; exact Option.some.inj this
theorem cell_inj {c c' : Dev nD} {x y : CK} (h : cell c x = cell c' y) : c = c' ∧ x = y :=
  ⟨congrArg (fun g : GSem nD τ sig => g.1.1) h, csem_injective (congrArg Prod.snd h)⟩

/-- What a transfer along axis `a` credits. -/
def exN : Fin 2 → ℕ
  | 0 => (ySlotOf yRecvB 0).view.dmaCredit
  | 1 => (xSlotOf xRecvB 0).view.dmaCredit
theorem exN_pos (a : Fin 2) : 0 < exN a := by
  match a with
  | 0 => exact View.dmaCredit_pos _ (by decide)
  | 1 => exact View.dmaCredit_pos _ (by decide)

/-! ## What the devices compute -/

/-- Chunk `g` of device `c`'s first weights as the kernel reads it from its slot, -/
def inLd (c : Dev nD) (g : ℕ) : Vec F S1x512x2048 .f32 :=
  fun x => (inSrc g).view.read (Elt F) (m ((inSrc g).view.loc (c : Thread nD τ))) ((Shape.reshapeEquiv squeezes_S1x512x2048_S512x2048.numel_eq).symm x)
/-- and of its second. -/
def outLd (c : Dev nD) (g : ℕ) : Vec F S1x512x1024 .f32 :=
  fun x => (outSrc g).view.read (Elt F) (m ((outSrc g).view.loc (c : Thread nD τ))) ((Shape.reshapeEquiv squeezes_S1x512x1024_S512x1024.numel_eq).symm x)

/-- The block of the input the pipeline fetches for device `c`. -/
def xBlk (c : Dev nD) : Vec F S64x2048 .f32 := (win0_0.blk (0 : Fin 1)).view.read (Elt F) (m ((c : Thread nD τ).loc main_arg0))

/-- Every device's left operand of a layer: two pairs of pieces. -/
abbrev Opnd (F : FTy → Type) : Type := Dev nD → Two F × Two F

/-- Layer `l` on the operands `op`: the partial sum by the chunks `8 l + 4 j …`, -/
def yPartOf (l j : ℕ) (op : Opnd F) (c : Dev nD) : FVec F S64x2048 .f32 :=
  addf (addf (addf (inDot (op c).1.1 (inLd m c (8 * l + 4 * j))) (inDot (op c).1.2 (inLd m c (8 * l + 4 * j + 1))))
    (inDot (op c).2.1 (inLd m c (8 * l + 4 * j + 2)))) (inDot (op c).2.2 (inLd m c (8 * l + 4 * j + 3)))
/-- as it is sent, -/
def ySndOf (l j : ℕ) (op : Opnd F) (c : Dev nD) : Vec F S1x64x2048 .bf16 :=
  shapeCast S1x64x2048 (truncf .bf16 (yPartOf m l j op c) bitsLt_bf16_f32) shapeCasts_S64x2048_S1x64x2048
/-- the hidden activations it gives with the partner's, -/
def hidOf (l j : ℕ) (op : Opnd F) (c : Dev nD) : FVec F S64x2048 .bf16 := reluSum (ySndOf m l j op c, ySndOf m l j op (py c))
/-- the partial sum by the chunks `16 l + 8 j …` of the second weights, -/
def xPartOf (l j : ℕ) (op : Opnd F) (c : Dev nD) : FVec F S64x1024 .f32 :=
  addf (addf (addf (addf (addf (addf (addf (outDot (piece0 (hidOf m l 0 op c)) (outLd m c (16 * l + 8 * j))) (outDot (piece1 (hidOf m l 0 op c)) (outLd m c (16 * l + 8 * j + 1))))
    (outDot (piece2 (hidOf m l 0 op c)) (outLd m c (16 * l + 8 * j + 2)))) (outDot (piece3 (hidOf m l 0 op c)) (outLd m c (16 * l + 8 * j + 3))))
    (outDot (piece0 (hidOf m l 1 op c)) (outLd m c (16 * l + 8 * j + 4)))) (outDot (piece1 (hidOf m l 1 op c)) (outLd m c (16 * l + 8 * j + 5))))
    (outDot (piece2 (hidOf m l 1 op c)) (outLd m c (16 * l + 8 * j + 6)))) (outDot (piece3 (hidOf m l 1 op c)) (outLd m c (16 * l + 8 * j + 7)))
/-- as it is sent, -/
def xSndOf (l j : ℕ) (op : Opnd F) (c : Dev nD) : Vec F S1x64x1024 .bf16 :=
  shapeCast S1x64x1024 (truncf .bf16 (xPartOf m l j op c) bitsLt_bf16_f32) shapeCasts_S64x1024_S1x64x1024
/-- half of the layer's result, it and the partner's, -/
def resOf (l j : ℕ) (op : Opnd F) (c : Dev nD) : FVec F S64x1024 .f32 := plainSum (xSndOf m l j op c, xSndOf m l j op (px c))
/-- and half of the next layer's operand. -/
def twoOf (v : FVec F S64x1024 .f32) : Two F := (half0 (truncf .bf16 v bitsLt_bf16_f32), half1 (truncf .bf16 v bitsLt_bf16_f32))

/-- The operands of layer `l`. -/
def opnd : ℕ → Opnd F
  | 0 => fun c => ((piece0 (actOf (xBlk m c)), piece1 (actOf (xBlk m c))), (piece2 (actOf (xBlk m c)), piece3 (actOf (xBlk m c))))
  | l + 1 => fun c => (twoOf (resOf m l 0 (opnd l) c), twoOf (resOf m l 1 (opnd l) c))

/-- What device `c` sends through slot `k` along the second axis, -/
def ySnd (k : Fin 6) (c : Dev nD) : Vec F S1x64x2048 .bf16 := ySndOf m (k.val / 2) (k.val % 2) (opnd m (k.val / 2)) c
/-- and along the first. -/
def xSnd (k : Fin 6) (c : Dev nD) : Vec F S1x64x1024 .bf16 := xSndOf m (k.val / 2) (k.val % 2) (opnd m (k.val / 2)) c

/-! ## Slots -/

section Slots

variable {s : Shape} (b : Memref sig .tc .vmem s .bf16) (r : Rect s)

/-- Device `c`'s rectangle `r` of the buffer `b`, at some contents; -/
def slotAny (c : Dev nD) : sProp 𝕄 := iprop(∃ f : Buf (Elt F) (b.view.loc (c : Thread nD τ)), b.view.loc (c : Thread nD τ) ↦[(b.view.slice r).set]{fullShare} f)
/-- at contents that read `V`. -/
def slotHas (c : Dev nD) (V : r.shape.Idx → Elt F .bf16) : sProp 𝕄 :=
  iprop(∃ f : Buf (Elt F) (b.view.loc (c : Thread nD τ)), ⌜b.view.readAt (Elt F) r.toLoadRect f = V⌝ ∗ b.view.loc (c : Thread nD τ) ↦[(b.view.slice r).set]{fullShare} f)

omit [FloatOps F] in
theorem slotAny_of (c : Dev nD) (V : r.shape.Idx → Elt F .bf16) : slotHas b r c V ⊢ (slotAny b r c : sProp 𝕄) := by
  unfold slotHas slotAny
  iintro ⟨%f, -, H⟩; iexists f; iexact H

omit [FloatOps F] in
instance slotAny_storable (c : Dev nD) : BI.Storable (upEmb : UEmb _ 𝕄) (slotAny (F := F) b r c) := by unfold slotAny; infer_instance
omit [FloatOps F] in
instance slotHas_storable (c : Dev nD) (V : r.shape.Idx → Elt F .bf16) : BI.Storable (upEmb : UEmb _ 𝕄) (slotHas (F := F) b r c V) := by
  unfold slotHas; infer_instance

end Slots

/-- Slot `k` along axis `a` of device `c`: of its receive buffer (`true`) or its send buffer, at some contents; -/
def exAny (b : Bool) (a : Fin 2) (k : Fin 6) (c : Dev nD) : sProp 𝕄 :=
  match b, a with
  | false, 0 => slotAny ySendB (yRect k) c
  | true, 0 => slotAny yRecvB (yRect k) c
  | false, 1 => slotAny xSendB (xRect k) c
  | true, 1 => slotAny xRecvB (xRect k) c
/-- the send slot holding what it sends, the receive slot what the partner sends. -/
def exHas (b : Bool) (a : Fin 2) (k : Fin 6) (c : Dev nD) : sProp 𝕄 :=
  match b, a with
  | false, 0 => slotHas ySendB (yRect k) c (ySnd m k c)
  | true, 0 => slotHas yRecvB (yRect k) c (ySnd m k (py c))
  | false, 1 => slotHas xSendB (xRect k) c (xSnd m k c)
  | true, 1 => slotHas xRecvB (xRect k) c (xSnd m k (px c))

theorem exAny_of (b : Bool) (a : Fin 2) (k : Fin 6) (c : Dev nD) : exHas m b a k c ⊢ exAny b a k c := by
  match b, a with
  | false, 0 => exact slotAny_of _ _ _ _
  | true, 0 => exact slotAny_of _ _ _ _
  | false, 1 => exact slotAny_of _ _ _ _
  | true, 1 => exact slotAny_of _ _ _ _

omit [FloatOps F] in
instance exAny_storable (b : Bool) (a : Fin 2) (k : Fin 6) (c : Dev nD) : BI.Storable (upEmb : UEmb _ 𝕄) (exAny (F := F) b a k c) := by
  unfold exAny; split <;> infer_instance
instance exHas_storable (b : Bool) (a : Fin 2) (k : Fin 6) (c : Dev nD) : BI.Storable (upEmb : UEmb _ 𝕄) (exHas m b a k c) := by
  match b, a with
  | false, 0 => exact slotHas_storable _ _ _ _
  | true, 0 => exact slotHas_storable _ _ _ _
  | false, 1 => exact slotHas_storable _ _ _ _
  | true, 1 => exact slotHas_storable _ _ _ _

/-! ## The schedule -/

/-- The partner a duty of the barrier is paid by: the first signal of a device goes to its partner along the second
    axis (duty `false`), the second to its partner along the first (duty `true`). -/
def axOf : Bool → Fin 2
  | false => 0
  | true => 1

/-- What a partner's signal hands over: its six receive slots along that axis. -/
def barPay (d : Bool) (c : Dev nD) : sProp 𝕄 := bigSep Finset.univ fun k : Fin 6 => exAny true (axOf d) k (mate (axOf d) c)

omit [FloatOps F] in
instance barPay_storable (d : Bool) (c : Dev nD) : BI.Storable (upEmb : UEmb _ 𝕄) (barPay (F := F) d c) := by unfold barPay; infer_instance

def dutiesOf : Option CK → Finset Bool
  | some none => Finset.univ
  | some (some _) => {false}
  | none => ∅
def amountOf : Option CK → ℕ
  | some (some (_, a, _)) => exN a
  | _ => 1
def payOf (c : Dev nD) (d : Bool) : Option CK → sProp 𝕄
  | some none => barPay d c
  | some (some (b, a, k)) => exHas m b a k c
  | none => iprop(emp)

theorem amountOf_pos (o : Option CK) : 0 < amountOf o := by
  rcases o with _ | _ | ⟨b, a, k⟩
  · exact Nat.one_pos
  · exact Nat.one_pos
  · exact exN_pos a

/-- One round per shared semaphore. -/
def sched : Rounds.Schedule (GSem nD τ sig) Bool 𝕄 where
  duties g r := if r = 0 ∧ g.1.2 = .tc then dutiesOf (ckOf g.2) else ∅
  unitless _ := False
  amount g _ _ := amountOf (ckOf g.2)
  payload g _ d := payOf m g.1.1 d (ckOf g.2)
  amount_pos g _ _ _ := amountOf_pos _

instance sched_payload_storable (g : GSem nD τ sig) (r : ℕ) (d : Bool) : BI.Storable (upEmb : UEmb _ 𝕄) ((sched m).payload g r d) := by
  show BI.Storable upEmb (payOf m g.1.1 d (ckOf g.2))
  unfold payOf; split <;> infer_instance

section Sched
variable (c : Dev nD)

theorem duties_cell (ck : CK) : (sched m).duties (cell c ck) 0 = dutiesOf (some ck) := by
  dsimp only [sched]; rw [if_pos ⟨rfl, rfl⟩, ckOf_csem]
theorem duties_later (g : GSem nD τ sig) : ∀ r, 1 ≤ r → (sched m).duties g r = ∅ :=
  fun r hr => by dsimp only [sched]; rw [if_neg fun h => by omega]
theorem amount_cell (ck : CK) (d : Bool) : (sched m).amount (cell c ck) 0 d = amountOf (some ck) := by
  dsimp only [sched]; rw [ckOf_csem]
theorem payload_cell (ck : CK) (d : Bool) : (sched m).payload (cell c ck) 0 d = payOf m c d (some ck) := by
  dsimp only [sched]; rw [ckOf_csem]

theorem expect_bar : (sched m).expect (barCell c) 0 = 2 := by
  unfold Schedule.expect Schedule.amountOf
  rw [duties_cell, Finset.sum_congr rfl fun d _ => amount_cell m c none d]
  rfl
theorem expect_ex (b : Bool) (a : Fin 2) (k : Fin 6) : (sched m).expect (cell c (some (b, a, k))) 0 = exN a := by
  unfold Schedule.expect Schedule.amountOf
  rw [duties_cell, Finset.sum_congr rfl fun d _ => amount_cell m c (some (b, a, k)) d]
  show ∑ d ∈ {false}, exN a = exN a
  rw [Finset.sum_singleton]

/-- The rest of the barrier's round, no duty taken: both partners' slots. -/
theorem rest_bar : bigSep ((sched m).duties (barCell c) 0 \ ∅) (fun d => (sched m).payload (barCell c) 0 d)
    = iprop(barPay false c ∗ barPay true c) := by
  rw [Finset.sdiff_empty, duties_cell, show dutiesOf (some none) = Finset.univ from rfl,
    bigSep_univ_eq_bigSepL [false, true] (by decide) (by decide), bigSepL_cons_cons, bigSepL_singleton, payload_cell, payload_cell]
  rfl
/-- The rest of a slot's round: the slot. -/
theorem rest_ex (b : Bool) (a : Fin 2) (k : Fin 6) :
    bigSep ((sched m).duties (cell c (some (b, a, k))) 0 \ ∅) (fun d => (sched m).payload (cell c (some (b, a, k))) 0 d) = exHas m b a k c := by
  rw [Finset.sdiff_empty, duties_cell, show dutiesOf (some (some (b, a, k))) = {false} from rfl, bigSep_singleton, payload_cell]
  rfl

end Sched

/-! ## What each device owes; the levels -/

/-- The credit the `i`-th exchange owes the partner's receiving end. -/
def due (c : Dev nD) (i : ℕ) : CellTallies nD τ sig Unit := tallyAt (rcvCell (ax i) (sl i) (mate (ax i) c)) () (exN (ax i))
/-- What device `c` owes before its `n`-th exchange. -/
def owed (c : Dev nD) (n : ℕ) : CellTallies nD τ sig Unit := ∑ i ∈ Finset.Ico n 12, due c i
/-- What it owes at launch: that, and a unit of each partner's barrier. -/
def O₁ (c : Dev nD) : CellTallies nD τ sig Unit := owed c 0 + tallyAt (barCell (px c)) () 1
def O₀ (c : Dev nD) : CellTallies nD τ sig Unit := O₁ c + tallyAt (barCell (py c)) () 1

theorem owed_peel (c : Dev nD) {n : ℕ} (h : n < 12) : owed c n = owed c (n + 1) + due c n := by
  unfold owed; rw [Ring.sum_Ico_succ h, add_comm]
theorem owed_end (c : Dev nD) : owed c 12 = 0 := by unfold owed; rw [Finset.Ico_self, Finset.sum_empty]

def L (g : GSem nD τ sig) : Finset Unit := if g.1.2 = .tc then {()} else ∅
def lvOf : Option CK → ℕ
  | some none => 1
  | some (some (true, a, k)) => 2 + ord a k
  | _ => 0
/-- A barrier at 1, the receiving end of the `i`-th exchange at `2 + i`, everything else at 0. -/
def lv (g : GSem nD τ sig) (_ : Unit) : ℕ := lvOf (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (ck : CK) (u : Unit) : lv (cell c ck) u = lvOf (some ck) := by unfold lv; rw [ckOf_csem]

theorem owed_pos {c : Dev nD} {n : ℕ} {g : GSem nD τ sig} {u : Unit} (h : 0 < owed c n g u) :
    ∃ i, n ≤ i ∧ i < 12 ∧ g = rcvCell (ax i) (sl i) (mate (ax i) c) := by
  unfold owed at h
  rw [Finset.sum_apply, Finsupp.finset_sum_apply] at h
  obtain ⟨i, hi, hp⟩ := Finset.exists_ne_zero_of_sum_ne_zero h.ne'
  refine ⟨i, (Finset.mem_Ico.mp hi).1, (Finset.mem_Ico.mp hi).2, ?_⟩
  unfold due at hp
  rw [tallyAt_apply] at hp
  by_contra hn
  exact hp (if_neg fun h' => hn h'.1)

theorem O₀_pos {c : Dev nD} {g : GSem nD τ sig} {u : Unit} (h : 0 < O₀ c g u) :
    (∃ c', g = barCell c') ∨ ∃ i, i < 12 ∧ g = rcvCell (ax i) (sl i) (mate (ax i) c) := by
  unfold O₀ O₁ at h
  rw [Pi.add_apply, Finsupp.add_apply, Pi.add_apply, Finsupp.add_apply, tallyAt_apply, tallyAt_apply] at h
  by_cases h1 : g = barCell (px c)
  · exact .inl ⟨_, h1⟩
  by_cases h2 : g = barCell (py c)
  · exact .inl ⟨_, h2⟩
  rw [if_neg (fun h' => h1 h'.1), if_neg (fun h' => h2 h'.1)] at h
  simp only [Nat.add_zero] at h
  obtain ⟨i, -, hi, hg⟩ := owed_pos h
  exact .inr ⟨i, hi, hg⟩

theorem lv_due (c : Dev nD) {i : ℕ} (h : i < 12) (u : Unit) : lv (rcvCell (ax i) (sl i) c) u = 2 + i := by
  rw [lv_cell]; show 2 + ord (ax i) (sl i) = 2 + i; rw [ord_at ⟨i, h⟩]

omit [FloatOps F] in
/-- A semaphore below the receiving ends still owed may be waited on. -/
theorem mayWait (c : Dev nD) (sm : SemLoc sig) (n : ℕ) (h : lvOf (ckOf sm) < 2 + n) :
    (levAts L lv : sProp 𝕄) ⊢ MayWait (c : Thread nD τ) sm () (owed c n) :=
  MayOwe.of_cut (L := L) (lev := lv) (lvOf (ckOf sm)) (fun p hp => by rw [Finset.mem_singleton.mp hp, L_tc]; exact Finset.mem_singleton_self _)
    (fun g u hg => by obtain ⟨i, -, -, rfl⟩ := owed_pos hg; exact Finset.mem_singleton_self _)
    (fun p hp => by rw [Finset.mem_singleton.mp hp]; exact le_refl _)
    (fun g u hg => by obtain ⟨i, h1, h2, rfl⟩ := owed_pos hg; rw [lv_due _ h2]; omega)

omit [FloatOps F] in
/-- A semaphore not shared may be waited on at launch, -/
theorem mayWait₀ (c : Dev nD) (sm : SemLoc sig) (h : lvOf (ckOf sm) = 0) : (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨c', rfl⟩ | ⟨i, -, rfl⟩ <;> exact Finset.mem_singleton_self _)
    (fun p hp => by rw [Finset.mem_singleton.mp hp]; exact h.le)
    (fun g u hg => by
      rcases O₀_pos hg with ⟨c', rfl⟩ | ⟨i, h2, rfl⟩
      · rw [lv_cell]; exact Nat.one_pos
      · rw [lv_due _ h2]; omega)

end Cert.KernelIdeal.Body

end
-- ==== Proof.KernelIdeal.Steps.lean ====
/-
  Running a stretch of the kernel's program: what it starts from, the value it returns, what it ends with; and the two
  streams of weight chunks, as one stream whose slots are refilled in turn.
-/
module

public import proofs.«01_k».proof.Proof.KernelIdeal.Setup

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × CK → ℕ)

/-! ## Taking one summand out -/

section Sep
variable {I : Type} [DecidableEq I]
omit [FloatOps F] in
theorem sep_take {s : Finset I} {i : I} (h : i ∈ s) (Φ : I → sProp 𝕄) : bigSep s Φ = iprop(Φ i ∗ bigSep (s.erase i) Φ) := bigSep_erase h
omit [FloatOps F] in
theorem ico_first {j s : ℕ} (h : j < s) (Φ : ℕ → sProp 𝕄) : bigSep (Finset.Ico j s) Φ = iprop(Φ j ∗ bigSep (Finset.Ico (j + 1) s) Φ) := by
  rw [Ring.Ico_eq_insert h, bigSep_insert (by simp)]; rfl
omit [FloatOps F] in
theorem ico_last {j s : ℕ} (h : j ≤ s) (Φ : ℕ → sProp 𝕄) : bigSep (Finset.Ico j (s + 1)) Φ = iprop(Φ s ∗ bigSep (Finset.Ico j s) Φ) := by
  rw [show Finset.Ico j (s + 1) = insert s (Finset.Ico j s) from by ext x; simp only [Finset.mem_insert, Finset.mem_Ico]; omega,
    bigSep_insert (by simp)]; rfl
omit [FloatOps F] in
theorem ico_one (j : ℕ) (Φ : ℕ → sProp 𝕄) : bigSep (Finset.Ico j (j + 1)) Φ = Φ j := by
  rw [show Finset.Ico j (j + 1) = {j} from by ext x; simp only [Finset.mem_singleton, Finset.mem_Ico]; omega, bigSep_singleton]
end Sep

/-! ## Runs -/

/-- What every step may use: the levels, every shared semaphore's invariant, and that each has reached its round. -/
def ctx : sProp 𝕄 :=
  iprop(levAts L lv ∗ (bigSep Finset.univ fun x : Dev nD × CK => cellInv ER (sched m) (κ x) (cell x.1 x.2))
    ∗ bigSep Finset.univ fun x : Dev nD × CK => reached ER (cell x.1 x.2) 0)

instance ctx_persistent : BI.Persistent (ctx m κ) := by unfold ctx; infer_instance

theorem ctx_lev : ctx m κ ⊢ levAts L lv := by unfold ctx; iintro ⟨H, -, -⟩; iexact H
theorem ctx_inv (c : Dev nD) (k : CK) : ctx m κ ⊢ cellInv ER (sched m) (κ (c, k)) (cell c k) := by
  unfold ctx; iintro ⟨-, H, -⟩
  iapply (show (bigSep Finset.univ fun x : Dev nD × CK => cellInv ER (sched m) (κ x) (cell x.1 x.2)) ⊢ cellInv ER (sched m) (κ (c, k)) (cell c k) from
    bigSep_elim (Finset.mem_univ (c, k)))
  iexact H
theorem ctx_reached (c : Dev nD) (k : CK) : ctx m κ ⊢ reached ER (cell c k) 0 := by
  unfold ctx; iintro ⟨-, -, H⟩
  iapply (show (bigSep Finset.univ fun x : Dev nD × CK => (reached ER (cell x.1 x.2) 0 : sProp 𝕄)) ⊢ reached ER (cell c k) 0 from
    bigSep_elim (Finset.mem_univ (c, k)))
  iexact H

/-- On device `c`, the program `p` run from `P` returns `v` and ends with `R`. -/
def Runs {α : Type} (c : Dev nD) (P : sProp 𝕄) (p : KProg F α) (v : α) (R : sProp 𝕄) : Prop :=
  ∀ K : α → sProp 𝕄, iprop(ctx m κ ∗ P ∗ (R -∗ K v)) ⊢ wp frame (wpE (defs₀ (F := F)) 𝒱₀ (c : Thread nD τ) none) Set.univ p K

section Runs
variable {m κ}
variable {α β : Type} {c : Dev nD}

theorem Runs.bind {P R S : sProp 𝕄} {p : KProg F α} {v : α} {f : α → KProg F β} {w : β} (h₁ : Runs m κ c P p v R) (h₂ : Runs m κ c R (f v) w S) :
    Runs m κ c P (p >>= f) w S := fun K => by
  rw [wp_bind]
  iintro ⟨#HC, HP, HK⟩
  iapply (h₁ fun a => wp frame (wpE (defs₀ (F := F)) 𝒱₀ (c : Thread nD τ) none) Set.univ (f a) K)
  isplitr; · iexact HC
  isplitl [HP]; · iexact HP
  iintro HR
  iapply (h₂ K)
  isplitr; · iexact HC
  isplitl [HR] <;> iassumption

theorem Runs.pure {P R : sProp 𝕄} {v : α} (h : P ⊢ R) : Runs m κ c P (pure v) v R := fun K => by
  rw [wp_pure]
  iintro ⟨-, HP, HK⟩
  imodintro
  iapply HK
  iapply h $$ HP

theorem Runs.frame {P R X : sProp 𝕄} {p : KProg F α} {v : α} (h : Runs m κ c P p v R) : Runs m κ c iprop(P ∗ X) p v iprop(R ∗ X) := fun K => by
  iintro ⟨HC, ⟨HP, HX⟩, HK⟩
  iapply (h K)
  isplitl [HC]; · iexact HC
  isplitl [HP]; · iexact HP
  iintro HR
  iapply HK
  isplitl [HR] <;> iassumption

theorem Runs.pre {P P' R : sProp 𝕄} {p : KProg F α} {v : α} (h : P' ⊢ P) (h₁ : Runs m κ c P p v R) : Runs m κ c P' p v R := fun K =>
  (sep_mono_right (sep_mono_left h)).trans (h₁ K)

theorem Runs.post {P R R' : sProp 𝕄} {p : KProg F α} {v : α} (h₁ : Runs m κ c P p v R) (h : R ⊢ R') : Runs m κ c P p v R' := fun K => by
  iintro ⟨HC, HP, HK⟩
  iapply (h₁ K)
  isplitl [HC]; · iexact HC
  isplitl [HP]; · iexact HP
  iintro HR
  iapply HK
  iapply h $$ HR

end Runs

/-- What device `c` owes before its `n`-th exchange, whatever it has waited on. -/
def ow (c : Dev nD) (n : ℕ) : sProp 𝕄 := iprop(∃ W, owes (c : Thread nD τ) (owed c n) W)

/-! ## A stream of chunks -/

/-- Chunks `0 … T - 1`, each a rectangle of one of three arrays, brought one after the other through `n` slots of a
    buffer, slot by slot with its own semaphore. -/
structure Stream where
  n : ℕ
  T : ℕ
  n_pos : 0 < n
  slot : ℕ → Fin n
  slot_add : ∀ g, slot (g + n) = slot g
  sem : Fin n → DmaSem sig
  sem_lv : ∀ k, lvOf (ckOf (.dma (sem k))) = 0
  bs : Shape
  cs : Shape
  buf : Memref sig .tc .vmem bs .f32
  rect : Fin n → Rect bs
  stride : ∀ k a, (rect k).stride a = 1
  sq : ∀ k, (rect k).shape.Squeezes cs
  src : ℕ → Memref sig .tc .hbm cs .f32
  layer : ℕ → ℕ
  layer_lt : ∀ g, g < T → layer g < 3
  loc : ℕ → Dev nD → Loc nD τ sig
  src_loc : ∀ g (c : Dev nD), (src g).view.loc (c : Thread nD τ) = loc (layer g) c
  src_exact : ∀ g, (src g).view.WordExact
  dst_exact : ∀ k, ((buf.slice (rect k) (stride k)).squeeze cs (sq k)).view.WordExact
  loads : ∀ k, buf.view.LoadsAt (rect k).toLoadRect
  N : ℕ
  credit : ∀ k, ((buf.slice (rect k) (stride k)).squeeze cs (sq k)).view.dmaCredit = N
  N_pos : 0 < N

namespace Stream

variable (S : Stream)

/-- Slot `k`, as a transfer names it. -/
def dst (k : Fin S.n) : Memref sig .tc .vmem S.cs .f32 := (S.buf.slice (S.rect k) (S.stride k)).squeeze S.cs (S.sq k)
/-- Start chunk `g` into its slot, where there is a chunk `g`; -/
def start (g : ℕ) : KProg F PUnit :=
  if g < S.T then
    Prog.lift (.enqueueDma (S.src g) (.here (S.dst (S.slot g))) (.dma (S.sem (S.slot g))) (S.src_exact g) (S.dst_exact _) ⟨Or.inl rfl, trivial⟩)
  else pure ⟨⟩
/-- wait for it; -/
def wait (g : ℕ) : KProg F PUnit :=
  Prog.lift (.waitDma2 (S.sem (S.slot g)) (S.src g) (S.dst (S.slot g)) (S.src_exact g) (S.dst_exact _))
/-- read it. -/
def load (g : ℕ) : KProg F ((S.rect (S.slot g)).toLoadRect.shape.Idx → Elt F .f32) :=
  Prog.lift (.load S.buf (S.rect (S.slot g)).toLoadRect (S.loads _))

/-- Chunk `g` of device `c`, as it is read from its slot. -/
def val (c : Dev nD) (g : ℕ) : (S.rect (S.slot g)).shape.Idx → Elt F .f32 :=
  fun x => (S.src g).view.read (Elt F) (m ((S.src g).view.loc (c : Thread nD τ))) ((Shape.reshapeEquiv (S.sq (S.slot g)).numel_eq).symm x)

/-- Slot `k` unused: its semaphore at zero, its part of the buffer at some contents. -/
def idle (c : Dev nD) (k : Fin S.n) : sProp 𝕄 :=
  iprop(semVal ((c : Thread nD τ), .dma (S.sem k)) 0
    ∗ ∃ f : Buf (Elt F) (S.buf.view.loc (c : Thread nD τ)), S.buf.view.loc (c : Thread nD τ) ↦[(S.buf.view.slice (S.rect k)).set]{fullShare} f)
/-- Chunk `g` in its slot. -/
def has (c : Dev nD) (g : ℕ) : sProp 𝕄 :=
  iprop(∃ f : Buf (Elt F) (S.buf.view.loc (c : Thread nD τ)), ⌜S.buf.view.readAt (Elt F) (S.rect (S.slot g)).toLoadRect f = S.val m c g⌝
    ∗ S.buf.view.loc (c : Thread nD τ) ↦[(S.buf.view.slice (S.rect (S.slot g))).set]{fullShare} f)
/-- Chunk `g` on its way; past the last chunk, its slot unused. -/
def fly (c : Dev nD) (g : ℕ) : sProp 𝕄 :=
  if g < S.T then Transfers.Flight EC (c : Thread nD τ) (.dma (S.sem (S.slot g))) () S.N (S.has m c g) else S.idle c (S.slot g)
/-- A share of each array, unchanged. -/
def arrs (c : Dev nD) : sProp 𝕄 := bigSep (Finset.range 3) fun l => iprop(∃ q : PosShare TreeShare, S.loc l c ↦{q} m (S.loc l c))
/-- Chunks before `j` taken, chunks before `s` started. -/
def st (c : Dev nD) (j s : ℕ) : sProp 𝕄 :=
  iprop(bigSep (Finset.Ico j s) (S.fly m c) ∗ bigSep (Finset.Ico s (j + S.n)) (fun g => S.idle c (S.slot g)) ∗ S.arrs m c)
/-- Chunk `g` waited for, its slot not yet refilled. -/
def mid (c : Dev nD) (g : ℕ) : sProp 𝕄 :=
  iprop(semVal ((c : Thread nD τ), .dma (S.sem (S.slot g))) 0 ∗ S.has m c g ∗ bigSep (Finset.Ico (g + 1) (g + S.n)) (S.fly m c) ∗ S.arrs m c)

omit [FloatOps F] in
/-- A share of the array chunk `g` is of, cut off; the rest as before. -/
theorem arrs_take (c : Dev nD) (g : ℕ) (h : g < S.T) :
    S.arrs m c ⊢ iprop((∃ q : PosShare TreeShare, (S.src g).view.loc (c : Thread nD τ) ↦[(S.src g).view.set]{q} m ((S.src g).view.loc (c : Thread nD τ))) ∗ S.arrs m c) := by
  unfold arrs
  rw [sep_take (Finset.mem_range.mpr (S.layer_lt g h)), ← S.src_loc g c]
  iintro ⟨⟨%q, Hq⟩, Hr⟩
  ihave Hq := (pointsTo_share (PosShare.mem_left_op_right q)).1 $$ Hq
  icases Hq with ⟨H1, H2⟩
  isplitl [H1]
  · iexists q.left
    ihave H1 := (pointsTo_split_subset (Finset.subset_univ (S.src g).view.set)).1 $$ H1
    icases H1 with ⟨H1, -⟩
    iexact H1
  isplitl [H2]
  · iexists q.right; iexact H2
  iexact Hr

omit [FloatOps F] in
theorem set_dst (k : Fin S.n) : (S.dst k).view.set = (S.buf.view.slice (S.rect k)).set := View.set_reshape _ _

omit [FloatOps F] in
/-- What a transfer of chunk `g` leaves in its slot reads as the chunk. -/
theorem landed (c : Dev nD) (g : ℕ) (f : Buf (Elt F) (S.buf.view.loc (c : Thread nD τ))) :
    S.buf.view.readAt (Elt F) (S.rect (S.slot g)).toLoadRect
      ((S.dst (S.slot g)).view.write (Elt F) f ((S.src g).view.read (Elt F) (m ((S.src g).view.loc (c : Thread nD τ)))) Finset.univ) = S.val m c g := by
  show (S.buf.view.slice (S.rect (S.slot g))).read (Elt F) (((S.buf.view.slice (S.rect (S.slot g))).reshape S.cs (S.sq _).numel_eq).write (Elt F) f _ Finset.univ) = _
  rw [View.write_reshape_univ, View.read_write_univ]
  rfl

theorem run_start (c : Dev nD) {j s : ℕ} (h₁ : j ≤ s) (h₂ : s < j + S.n) :
    Runs m κ c (S.st m c j s) (S.start s) ⟨⟩ (S.st m c j (s + 1)) := by
  unfold start
  have hI : iprop(S.fly m c s ∗ bigSep (Finset.Ico j s) (S.fly m c) ∗ bigSep (Finset.Ico (s + 1) (j + S.n)) (fun g => S.idle c (S.slot g)) ∗ S.arrs m c)
      ⊢ S.st m c j (s + 1) := by
    unfold st
    rw [ico_last h₁]
    iintro ⟨H1, H2, H3, H4⟩
    isplitl [H1 H2]; · isplitl [H1] <;> iassumption
    isplitl [H3] <;> iassumption
  have hO : S.st m c j s ⊢ iprop(S.idle c (S.slot s) ∗ bigSep (Finset.Ico j s) (S.fly m c) ∗ bigSep (Finset.Ico (s + 1) (j + S.n)) (fun g => S.idle c (S.slot g)) ∗ S.arrs m c) := by
    unfold st
    rw [ico_first h₂]
    iintro ⟨H1, ⟨H2, H3⟩, H4⟩
    isplitl [H2]; · iexact H2
    isplitl [H1]; · iexact H1
    isplitl [H3] <;> iassumption
  by_cases hs : s < S.T
  · rw [if_pos hs]
    intro K
    simp only [Prog.lift]
    iintro ⟨#HC, HP, HK⟩
    ihave HP := hO $$ HP
    unfold idle
    icases HP with ⟨⟨Hv, ⟨%f, Hf⟩⟩, H1, H2, H3⟩
    ihave H3 := (S.arrs_take m c s hs) $$ H3
    icases H3 with ⟨⟨%q, Hq⟩, H3⟩
    iapply (Transfers.wp_dmaLocal EC 𝒱₀ (c : Thread nD τ) none (src := S.src s) (dst := S.dst (S.slot s)) (sm := .dma (S.sem (S.slot s))) (hsrc := S.src_exact s) (hdst := S.dst_exact _) (hsem := ⟨Or.inl rfl, trivial⟩) (q := q) (fs := m ((S.src s).view.loc (c : Thread nD τ))) (fd := f)
      (Sd := (S.buf.view.slice (S.rect (S.slot s))).set) () S.N (S.credit _) S.N_pos (S.set_dst _).subset) $$ [Hv Hf Hq]
    · isplitl [Hq]; · iexact Hq
      isplitl [Hf]; · iexact Hf
      iexact Hv
    iintro Hfl
    rw [wp_ret]; imodintro
    iapply HK
    iapply hI
    isplitl [Hfl]
    · unfold fly; rw [if_pos hs]
      iapply (Transfers.Flight_mono EC (c : Thread nD τ) (show _ ⊢ S.has m c s from ?_)) $$ Hfl
      unfold has
      iintro ⟨Hd, -⟩
      iexists _
      isplitr; swap
      · iexact Hd
      ipureintro
      exact S.landed m c s f
    isplitl [H1]; · iexact H1
    isplitl [H2]; · iexact H2
    iexact H3
  · rw [if_neg hs]
    refine Runs.pure (hO.trans ((sep_mono_left (Entails.of_eq ?_)).trans hI))
    unfold fly; rw [if_neg hs]

theorem run_wait (c : Dev nD) (g k : ℕ) (hg : g < S.T) :
    Runs m κ c iprop(S.st m c g (g + S.n) ∗ ow c k) (S.wait g) ⟨⟩ iprop(S.mid m c g ∗ ow c k) := by
  intro K
  unfold wait st
  rw [ico_first (show g < g + S.n from Nat.lt_add_of_pos_right S.n_pos)]
  simp only [Prog.lift]
  unfold fly ow
  rw [if_pos hg]
  iintro ⟨#HC, ⟨⟨⟨Hf, H1⟩, -, H3⟩, ⟨%W, HO⟩⟩, HK⟩
  iapply (Transfers.wp_waitLocalO EC 𝒱₀ (c : Thread nD τ) none (srcw := S.src g) (dstw := S.dst (S.slot g)) (hsrc := S.src_exact g) (hdst := S.dst_exact _) () (S.credit _)) $$ [Hf HO]
  · isplitl [Hf]; · iexact Hf
    isplitl [HO]; · iexact HO
    iapply (mayWait c (.dma (S.sem (S.slot g))) k (by rw [S.sem_lv]; omega))
    iapply (ctx_lev m κ); iexact HC
  iintro ⟨HD, Hv, HO⟩
  rw [wp_ret]; imodintro
  iapply HK
  isplitr [HO]
  · unfold mid
    isplitl [Hv]; · iexact Hv
    isplitl [HD]; · iexact HD
    isplitl [H1]; · iexact H1
    iexact H3
  · iexists _; iexact HO

theorem run_load (c : Dev nD) (g : ℕ) : Runs m κ c (S.mid m c g) (S.load g) (S.val m c g) (S.mid m c g) := by
  intro K
  unfold load mid has
  simp only [Prog.lift]
  iintro ⟨#HC, ⟨Hv, ⟨%f, %hf, Hf⟩, H⟩, HK⟩
  iapply (wp_load 𝒱₀ (c : Thread nD τ) none Set.univ (m := S.buf) (r := (S.rect (S.slot g)).toLoadRect) (by rw [View.set_slice]; exact Finset.Subset.refl _)) $$ Hf
  iintro Hf
  rw [hf, wp_ret]; imodintro
  iapply HK
  isplitl [Hv]; · iexact Hv
  isplitl [Hf]
  · iexists f; isplitr; · ipureintro; exact hf
    iexact Hf
  iexact H

omit [FloatOps F] in
/-- A chunk read, its slot is unused again. -/
theorem mid_done (c : Dev nD) (g : ℕ) : S.mid m c g ⊢ S.st m c (g + 1) (g + S.n) := by
  unfold mid st has
  rw [show g + 1 + S.n = g + S.n + 1 from by omega, ico_one, S.slot_add]
  unfold idle
  iintro ⟨Hv, ⟨%f, -, Hf⟩, H, H'⟩
  isplitl [H]; · iexact H
  isplitl [Hv Hf]
  · isplitl [Hv]; · iexact Hv
    iexists f; iexact Hf
  iexact H'

/-- Read chunk `g`, waited for, and start the chunk that refills its slot. -/
theorem run_next (c : Dev nD) (g : ℕ) : Runs m κ c (S.mid m c g) (S.start (g + S.n)) ⟨⟩ (S.st m c (g + 1) (g + 1 + S.n)) := by
  have h := S.run_start m κ c (j := g + 1) (s := g + S.n) (by have := S.n_pos; omega) (by omega)
  rw [show g + S.n + 1 = g + 1 + S.n from by omega] at h
  exact h.pre (S.mid_done m c g)

end Stream

end Cert.KernelIdeal.Body

end
-- ==== Proof.KernelIdeal.Exchange.lean ====
/-
  The exchanges: a slot filled and sent to a partner, the same slot waited for at both ends and read; and the handshake
  that opens the partners' receive slots.  One exchange is proved over the buffers it goes through, and used along both axes.
-/
module

public import proofs.«01_k».proof.Proof.KernelIdeal.Steps

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × CK → ℕ)

/-! ## The three states of an exchange -/

/-- Before: the duties at both ends, the places at the device's own two ends, the credit its partner owes it. -/
def rdy (a : Fin 2) (k : Fin 6) (c : Dev nD) : sProp 𝕄 :=
  iprop(dutyTok ER (sndCell a k c) 0 false ∗ dutyTok ER (rcvCell a k (mate a c)) 0 false
    ∗ atPos ER (sndCell a k c) 0 ∅ 0 ∗ atPos ER (rcvCell a k c) 0 ∅ 0 ∗ cred (tallyAt (rcvCell a k c) () (exN a)) ∗ exAny false a k c)
/-- With the partner's receive slot. -/
def opened (a : Fin 2) (k : Fin 6) (c : Dev nD) : sProp 𝕄 := iprop(rdy a k c ∗ exAny true a k (mate a c))
/-- Sent, not yet waited for. -/
def flying (a : Fin 2) (k : Fin 6) (c : Dev nD) : sProp 𝕄 :=
  iprop(atPos ER (sndCell a k c) 0 ∅ 0 ∗ atPos ER (rcvCell a k c) 0 ∅ 0 ∗ cred (tallyAt (sndCell a k c) () (exN a)) ∗ cred (tallyAt (rcvCell a k c) () (exN a)))
/-- Over: both semaphores at zero, both own slots back. -/
def closed (a : Fin 2) (k : Fin 6) (c : Dev nD) : sProp 𝕄 :=
  iprop(semVal (sndCell a k c) 0 ∗ semVal (rcvCell a k c) 0 ∗ exAny false a k c ∗ exAny true a k c)

/-! ## A semaphore's round, the semaphore as the program names it -/

theorem rest_at (c : Dev nD) (b : Bool) (a : Fin 2) (k : Fin 6) :
    bigSep ((sched m).duties ((c : Thread nD τ), .dma (exSem (exArr b a) k)) 0 \ ∅) (fun d => (sched m).payload ((c : Thread nD τ), .dma (exSem (exArr b a) k)) 0 d)
      ⊢ exHas m b a k c := Entails.of_eq (rest_ex m c b a k)
theorem rest_bar_at (c : Dev nD) :
    bigSep ((sched m).duties ((c : Thread nD τ), .reg barS) 0 \ ∅) (fun d => (sched m).payload ((c : Thread nD τ), .reg barS) 0 d)
      ⊢ iprop(barPay false c ∗ barPay true c) := Entails.of_eq (rest_bar m c)
theorem pay_bar (d : Bool) (c : Dev nD) : barPay d c ⊢ (sched m).payload ((c : Thread nD τ), .reg barS) 0 d :=
  Entails.of_eq (payload_cell m c none d).symm

/-! ## One exchange -/

variable (F) in
/-- The buffers slot `k` along axis `a` goes through, and what each device sends through it. -/
structure Exch where
  a : Fin 2
  k : Fin 6
  bs : Shape
  cs : Shape
  sb : Memref sig .tc .vmem bs .bf16
  rb : Memref sig .tc .vmem bs .bf16
  r : Rect bs
  stride : ∀ x, r.stride x = 1
  sq : r.shape.Squeezes cs
  s_exact : ((sb.slice r stride).squeeze cs sq).view.WordExact
  r_exact : ((rb.slice r stride).squeeze cs sq).view.WordExact
  s_loads : sb.view.LoadsAt r.toLoadRect
  r_loads : rb.view.LoadsAt r.toLoadRect
  stores : (sb.access r).Stores Finset.univ
  s_credit : ((sb.slice r stride).squeeze cs sq).view.dmaCredit = exN a
  r_credit : ((rb.slice r stride).squeeze cs sq).view.dmaCredit = exN a
  snd : Dev nD → r.shape.Idx → Elt F .bf16
  anyS : ∀ c, (exAny false a k c : sProp 𝕄) = slotAny sb r c
  anyR : ∀ c, (exAny true a k c : sProp 𝕄) = slotAny rb r c
  hasS : ∀ c, (exHas m false a k c : sProp 𝕄) = slotHas sb r c (snd c)
  hasR : ∀ c, (exHas m true a k c : sProp 𝕄) = slotHas rb r c (snd (mate a c))

namespace Exch

variable {m} (E : Exch F m)

/-- The slot of a buffer, as a transfer names it. -/
def slot (b : Memref sig .tc .vmem E.bs .bf16) : Memref sig .tc .vmem E.cs .bf16 := (b.slice E.r E.stride).squeeze E.cs E.sq

/-- Fill the send slot with `v` and send it to device `p`. -/
def send (p : Dev nD) (v : E.r.shape.Idx → Elt F .bf16) : KProg F PUnit := do
  let _ ← Prog.lift (.load E.sb E.r.toLoadRect E.s_loads)
  Prog.lift (.store E.sb E.r v Finset.univ E.stores (.inl rfl))
  Prog.lift (.enqueueDma (E.slot E.sb) (.remote (Dev.tc p) (E.slot E.rb) (.dma (exSem (exArr false E.a) E.k))) (.dma (exSem (exArr true E.a) E.k))
    E.s_exact E.r_exact ⟨⟨rfl, Or.inl rfl⟩, trivial⟩)
/-- Wait for both ends and read both slots. -/
def get : KProg F ((E.r.shape.Idx → Elt F .bf16) × (E.r.shape.Idx → Elt F .bf16)) := do
  Prog.lift (.waitDma2 (exSem (exArr false E.a) E.k) (E.slot E.rb) (E.slot E.sb) E.r_exact E.s_exact)
  Prog.lift (.waitDma2 (exSem (exArr true E.a) E.k) (E.slot E.sb) (E.slot E.rb) E.s_exact E.r_exact)
  let x ← Prog.lift (.load E.sb E.r.toLoadRect E.s_loads)
  let y ← Prog.lift (.load E.rb E.r.toLoadRect E.r_loads)
  pure (x, y)

theorem set_slot (b : Memref sig .tc .vmem E.bs .bf16) : (E.slot b).view.set = (b.view.slice E.r).set := View.set_reshape _ _

/-- What a transfer from slot to slot leaves reads as what was sent. -/
theorem landed (b b' : Memref sig .tc .vmem E.bs .bf16) (f : b.view.ty.Contents (Elt F)) (f' : b'.view.ty.Contents (Elt F)) :
    b'.view.readAt (Elt F) E.r.toLoadRect ((E.slot b').view.write (Elt F) f' ((E.slot b).view.read (Elt F) f) Finset.univ)
      = b.view.readAt (Elt F) E.r.toLoadRect f := by
  show (b'.view.slice E.r).read (Elt F) (((b'.view.slice E.r).reshape E.cs E.sq.numel_eq).write (Elt F) f' _ Finset.univ) = _
  rw [View.write_reshape_univ, View.read_write_univ]
  funext x
  show (b.view.slice E.r).read (Elt F) f (Shape.reshapeEquiv E.sq.numel_eq ((Shape.reshapeEquiv E.sq.numel_eq).symm x)) = _
  rw [Equiv.apply_symm_apply]
  rfl

theorem stored (b : Memref sig .tc .vmem E.bs .bf16) (f : b.view.ty.Contents (Elt F)) (v : E.r.shape.Idx → Elt F .bf16) :
    b.view.readAt (Elt F) E.r.toLoadRect ((b.access E.r).write (Elt F) f v Finset.univ) = v := by
  show (b.view.slice E.r).read (Elt F) ((b.view.slice E.r).write (Elt F) f v Finset.univ) = v
  rw [View.read_write_univ]

/-- The transfer, its source holding what the device sends. -/
theorem wp_send (c p : Dev nD) (hp : p = mate E.a c) (n : ℕ) (hn : n < 12) (ha : ax n = E.a) (hk : sl n = E.k)
    {hsc : (E.slot E.rb).view.ref.isScScratch = false}
    {hsrc : (E.slot E.sb).view.WordExact} {hdst : (E.slot E.rb).view.WordExact}
    {hsem : DmaTarget.Typed .vmem (.dma (exSem (exArr true E.a) E.k)) (.remote (Dev.tc p : Thread nD τ) (E.slot E.rb) (.dma (exSem (exArr false E.a) E.k)) hsc)}
    {α : Type} {Q : α → sProp 𝕄} {k : PUnit → Prog (TpuEff nD τ sig (Elt F) Λ₀ .tc) α}
    (fs : Buf (Elt F) (E.sb.view.loc (c : Thread nD τ))) (hfs : E.sb.view.readAt (Elt F) E.r.toLoadRect fs = E.snd c)
    (fd : Buf (Elt F) (E.rb.view.loc (mate E.a c : Thread nD τ))) (W : Waits sig Unit) :
    iprop(cellInv ER (sched m) (κ (c, some (false, E.a, E.k))) (sndCell E.a E.k c)
        ∗ cellInv ER (sched m) (κ (mate E.a c, some (true, E.a, E.k))) (rcvCell E.a E.k (mate E.a c))
        ∗ ((E.slot E.sb).view.loc (c : Thread nD τ) ↦[(E.slot E.sb).view.set]{fullShare} fs)
        ∗ ((E.slot E.rb).view.loc (mate E.a c : Thread nD τ) ↦[(E.slot E.rb).view.set]{fullShare} fd)
        ∗ owes (c : Thread nD τ) (owed c n) W
        ∗ dutyTok ER (sndCell E.a E.k c) 0 false ∗ reached ER (sndCell E.a E.k c) 0
        ∗ dutyTok ER (rcvCell E.a E.k (mate E.a c)) 0 false ∗ reached ER (rcvCell E.a E.k (mate E.a c)) 0)
      ⊢ iprop(((cred (tallyAt (sndCell E.a E.k c) () (exN E.a)) ∗ owes (c : Thread nD τ) (owed c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (E.slot E.sb) (.remote (Dev.tc p : Thread nD τ) (E.slot E.rb) (.dma (exSem (exArr false E.a) E.k)) hsc)
                (.dma (exSem (exArr true E.a) E.k)) hsrc hdst hsem) k) Q) := by
  subst hp
  refine Rounds.wp_send_pointsTo 𝒱₀ ER (sched m) (c : Thread nD τ) none (c' := (mate E.a c : Thread nD τ)) (src := E.slot E.sb) (dst := E.slot E.rb) (sem := .dma (exSem (exArr true E.a) E.k)) (sS := .dma (exSem (exArr false E.a) E.k)) (κ₁ := κ (c, some (false, E.a, E.k))) (κ₂ := κ (mate E.a c, some (true, E.a, E.k)))
    (r₁ := 0) (r₂ := 0) (d₁ := false) (d₂ := false) (fd := fd)
    ?_ ?_ () () (exN E.a) E.r_credit (amount_cell m c (some (false, E.a, E.k)) false) (amount_cell m (mate E.a c) (some (true, E.a, E.k)) false)
    (owed c (n + 1)) ?_ (W := W) ?_ ?_
  · show false ∈ (sched m).duties (cell c (some (false, E.a, E.k))) 0
    rw [duties_cell]; exact Finset.mem_singleton_self _
  · show false ∈ (sched m).duties (cell (mate E.a c) (some (true, E.a, E.k))) 0
    rw [duties_cell]; exact Finset.mem_singleton_self _
  · rw [owed_peel c hn]; unfold due; rw [ha, hk]; rfl
  · show _ ⊢ (sched m).payload (cell c (some (false, E.a, E.k))) 0 false
    rw [payload_cell]
    show _ ⊢ exHas m false E.a E.k c
    rw [E.hasS]; unfold slotHas
    iintro H
    iexists fs
    isplitr; · ipureintro; exact hfs
    rw [E.set_slot]
    iexact H
  · show _ ⊢ (sched m).payload (cell (mate E.a c) (some (true, E.a, E.k))) 0 false
    rw [payload_cell]
    show _ ⊢ exHas m true E.a E.k (mate E.a c)
    rw [E.hasR, mate_mate]; unfold slotHas
    iintro H
    iexists _
    isplitr; swap
    · rw [E.set_slot]
      iexact H
    ipureintro
    exact (E.landed E.sb E.rb fs fd).trans hfs

theorem run_send (c p : Dev nD) (hp : p = mate E.a c) (n : ℕ) (hn : n < 12) (ha : ax n = E.a) (hk : sl n = E.k) :
    Runs m κ c iprop(opened E.a E.k c ∗ ow c n) (E.send p (E.snd c)) ⟨⟩ iprop(flying E.a E.k c ∗ ow c (n + 1)) := by
  intro K
  unfold send opened rdy ow
  rw [E.anyS, E.anyR]
  unfold slotAny
  simp only [Prog.lift, Prog.bind_op, Prog.bind_ret, Prog.pure_eq_ret]
  iintro ⟨#HC, ⟨⟨⟨HtS, HtR, HaS, HaR, HcR, ⟨%f, Hf⟩⟩, ⟨%fd, Hd⟩⟩, ⟨%W, HO⟩⟩, HK⟩
  iapply (wp_load 𝒱₀ (c : Thread nD τ) none Set.univ (m := E.sb) (r := E.r.toLoadRect) (by rw [View.set_slice]; exact Finset.Subset.refl _)) $$ Hf
  iintro Hf
  iapply (wp_store 𝒱₀ (c : Thread nD τ) none Set.univ (m := E.sb) (r := E.r) (Mk := Finset.univ) (show (E.sb.access E.r).setOn Finset.univ ⊆ (E.sb.view.slice E.r).set from Finset.Subset.refl _)) $$ Hf
  iintro Hf
  iapply (E.wp_send κ c p hp n hn ha hk _ (E.stored E.sb f (E.snd c)) fd W) $$ [Hf Hd HO HtS HtR]
  · isplitr; · iapply (ctx_inv m κ c (some (false, E.a, E.k))); iexact HC
    isplitr; · iapply (ctx_inv m κ (mate E.a c) (some (true, E.a, E.k))); iexact HC
    isplitl [Hf]; · rw [E.set_slot]; iexact Hf
    isplitl [Hd]; · rw [E.set_slot]; iexact Hd
    isplitl [HO]; · iexact HO
    isplitl [HtS]; · iexact HtS
    isplitr; · iapply (ctx_reached m κ c (some (false, E.a, E.k))); iexact HC
    isplitl [HtR]; · iexact HtR
    iapply (ctx_reached m κ (mate E.a c) (some (true, E.a, E.k))); iexact HC
  iintro ⟨HcS, HO⟩
  rw [wp_ret]; imodintro
  iapply HK
  unfold flying
  isplitr [HO]
  · isplitl [HaS]; · iexact HaS
    isplitl [HaR]; · iexact HaR
    isplitl [HcS]; · iexact HcS
    iexact HcR
  iexists W; iexact HO

theorem run_get (c : Dev nD) (n : ℕ) (hn : ord E.a E.k < n) :
    Runs m κ c iprop(flying E.a E.k c ∗ ow c n) E.get (E.snd c, E.snd (mate E.a c)) iprop(closed E.a E.k c ∗ ow c n) := by
  intro K
  unfold get flying ow
  simp only [Prog.lift, Prog.bind_op, Prog.bind_ret, Prog.pure_eq_ret]
  iintro ⟨#HC, ⟨⟨HaS, HaR, HcS, HcR⟩, ⟨%W, HO⟩⟩, HK⟩
  iapply (Rounds.wp_wait_rest_token 𝒱₀ ER (sched m) (c : Thread nD τ) none (κ := κ (c, some (false, E.a, E.k)))
      (wpE_waitDma2_eq 𝒱₀ (c : Thread nD τ) none Set.univ) (Set.mem_univ _) () (O := owed c n) (W := W) (R := 0) (m := 0) (T := ∅)
      ((Nat.zero_add _).trans (E.s_credit.trans (expect_ex m c false E.a E.k).symm))) $$ [HcS HO HaS]
  · isplitr; · iapply (ctx_inv m κ c (some (false, E.a, E.k))); iexact HC
    isplitl [HcS]; · rw [show (E.slot E.sb).view.dmaCredit = exN E.a from E.s_credit]; iexact HcS
    isplitl [HO]; · iexact HO
    isplitr
    · iapply (mayWait c (csem (some (false, E.a, E.k))) n (by rw [ckOf_csem]; show 0 < _; omega))
      iapply (ctx_lev m κ); iexact HC
    iexact HaS
  iintro ⟨HO, HaS, -, HpS⟩
  ihave HpS := ((rest_at m c false E.a E.k).trans (Entails.of_eq (E.hasS c))) $$ HpS
  iapply (Rounds.wp_wait_rest_token 𝒱₀ ER (sched m) (c : Thread nD τ) none (κ := κ (c, some (true, E.a, E.k)))
      (wpE_waitDma2_eq 𝒱₀ (c : Thread nD τ) none Set.univ) (Set.mem_univ _) () (O := owed c n) (R := 0) (m := 0) (T := ∅)
      ((Nat.zero_add _).trans (E.r_credit.trans (expect_ex m c true E.a E.k).symm))) $$ [HcR HO HaR]
  · isplitr; · iapply (ctx_inv m κ c (some (true, E.a, E.k))); iexact HC
    isplitl [HcR]; · rw [show (E.slot E.rb).view.dmaCredit = exN E.a from E.r_credit]; iexact HcR
    isplitl [HO]; · iexact HO
    isplitr
    · iapply (mayWait c (csem (some (true, E.a, E.k))) n (by rw [ckOf_csem]; show 2 + ord E.a E.k < _; omega))
      iapply (ctx_lev m κ); iexact HC
    iexact HaR
  iintro ⟨HO, HaR, -, HpR⟩
  ihave HpR := ((rest_at m c true E.a E.k).trans (Entails.of_eq (E.hasR c))) $$ HpR
  imod (Rounds.cell_close ER (sched m) (Set.mem_univ (κ (c, some (false, E.a, E.k)))) (fun h => h) (R := 0 + 1) (duties_later m (sndCell E.a E.k c))) $$ [HaS] with HzS
  · isplitr; · iapply (ctx_inv m κ c (some (false, E.a, E.k))); iexact HC
    iexact HaS
  imod (Rounds.cell_close ER (sched m) (Set.mem_univ (κ (c, some (true, E.a, E.k)))) (fun h => h) (R := 0 + 1) (duties_later m (rcvCell E.a E.k c))) $$ [HaR] with HzR
  · isplitr; · iapply (ctx_inv m κ c (some (true, E.a, E.k))); iexact HC
    iexact HaR
  unfold slotHas
  icases HpS with ⟨%fS, %hS, HpS⟩
  icases HpR with ⟨%fR, %hR, HpR⟩
  iapply (wp_load 𝒱₀ (c : Thread nD τ) none Set.univ (m := E.sb) (r := E.r.toLoadRect) (by rw [View.set_slice]; exact Finset.Subset.refl _)) $$ HpS
  iintro HpS
  iapply (wp_load 𝒱₀ (c : Thread nD τ) none Set.univ (m := E.rb) (r := E.r.toLoadRect) (by rw [View.set_slice]; exact Finset.Subset.refl _)) $$ HpR
  iintro HpR
  rw [hS, hR, wp_ret]; imodintro
  iapply HK
  unfold closed
  rw [E.anyS, E.anyR]
  unfold slotAny
  isplitr [HO]
  · isplitl [HzS]; · iexact HzS
    isplitl [HzR]; · iexact HzR
    isplitl [HpS]; · iexists fS; iexact HpS
    iexists fR; iexact HpR
  iexists _; iexact HO

end Exch

/-! ## The two axes' exchanges -/

set_option backward.proofsInPublic true in
/-- Slot `k` along the second axis, -/
def yEx (k : Fin 6) : Exch F m where
  a := 0
  k := k
  bs := S6x64x2048
  cs := S64x2048
  sb := ySendB
  rb := yRecvB
  r := yRect k
  stride := fun _ => rfl
  sq := squeezes_S1x64x2048_S64x2048
  s_exact := exact_y (Memref.isWhole_whole cc0_scratch2) k
  r_exact := exact_y (Memref.isWhole_whole cc0_scratch3) k
  s_loads := View.loadsAt_vmem h_S1x64x2048
  r_loads := View.loadsAt_vmem h_S1x64x2048
  stores := View.stores_vmem h_S1x64x2048 ((Memref.isWhole_whole cc0_scratch2).storeExact_slice rfl _ (packed_y k)) (fun _ => rfl)
  s_credit := rfl
  r_credit := rfl
  snd := ySnd m k
  anyS := fun _ => rfl
  anyR := fun _ => rfl
  hasS := fun _ => rfl
  hasR := fun _ => rfl
set_option backward.proofsInPublic true in
/-- and along the first. -/
def xEx (k : Fin 6) : Exch F m where
  a := 1
  k := k
  bs := S6x64x1024
  cs := S64x1024
  sb := xSendB
  rb := xRecvB
  r := xRect k
  stride := fun _ => rfl
  sq := squeezes_S1x64x1024_S64x1024
  s_exact := exact_x (Memref.isWhole_whole cc0_scratch4) k
  r_exact := exact_x (Memref.isWhole_whole cc0_scratch5) k
  s_loads := View.loadsAt_vmem h_S1x64x1024
  r_loads := View.loadsAt_vmem h_S1x64x1024
  stores := View.stores_vmem h_S1x64x1024 ((Memref.isWhole_whole cc0_scratch4).storeExact_slice rfl _ (packed_x k)) (fun _ => rfl)
  s_credit := rfl
  r_credit := rfl
  snd := xSnd m k
  anyS := fun _ => rfl
  anyR := fun _ => rfl
  hasS := fun _ => rfl
  hasR := fun _ => rfl

/-! ## All twelve -/

/-- The first `n` exchanges sent, the first `g` of them over. -/
def exSt (c : Dev nD) (n g : ℕ) : sProp 𝕄 :=
  iprop(bigSep (Finset.Ico n 12) (fun i => opened (ax i) (sl i) c) ∗ bigSep (Finset.Ico g n) (fun i => flying (ax i) (sl i) c)
    ∗ bigSep (Finset.Ico 0 g) (fun i => closed (ax i) (sl i) c))

/-- One more sent, -/
theorem exSt_send {c p : Dev nD} {n g : ℕ} (hn : n < 12) (hg : g ≤ n) (E : Exch F m) (hp : p = mate E.a c) (ha : ax n = E.a) (hk : sl n = E.k) :
    Runs m κ c iprop(exSt c n g ∗ ow c n) (E.send p (E.snd c)) ⟨⟩ iprop(exSt c (n + 1) g ∗ ow c (n + 1)) := by
  have h := (E.run_send κ c p hp n hn ha hk).frame (X := iprop(bigSep (Finset.Ico (n + 1) 12) (fun i => opened (F := F) (ax i) (sl i) c)
    ∗ bigSep (Finset.Ico g n) (fun i => flying (F := F) (ax i) (sl i) c) ∗ bigSep (Finset.Ico 0 g) (fun i => closed (F := F) (ax i) (sl i) c)))
  rw [← ha, ← hk] at h
  refine (h.pre ?_).post ?_
  · unfold exSt
    rw [ico_first hn]
    iintro ⟨⟨⟨H1, H2⟩, H3, H4⟩, H5⟩
    isplitl [H1 H5]
    · isplitl [H1]; · iexact H1
      iexact H5
    isplitl [H2]; · iexact H2
    isplitl [H3]; · iexact H3
    iexact H4
  · unfold exSt
    rw [ico_last hg]
    iintro ⟨⟨H1, H5⟩, H2, H3, H4⟩
    isplitr [H5]; swap; · iexact H5
    isplitl [H2]; · iexact H2
    isplitr [H4]; swap; · iexact H4
    isplitl [H1]; · iexact H1
    iexact H3
/-- one more over. -/
theorem exSt_get {c : Dev nD} {n g : ℕ} (hn : g < n) (hg : g < 12) (E : Exch F m) (ha : ax g = E.a) (hk : sl g = E.k) :
    Runs m κ c iprop(exSt c n g ∗ ow c n) E.get (E.snd c, E.snd (mate E.a c)) iprop(exSt c n (g + 1) ∗ ow c n) := by
  have h := (E.run_get κ c n (by rw [← ha, ← hk, ord_at ⟨g, hg⟩]; exact hn)).frame (X := iprop(bigSep (Finset.Ico n 12) (fun i => opened (F := F) (ax i) (sl i) c)
    ∗ bigSep (Finset.Ico (g + 1) n) (fun i => flying (F := F) (ax i) (sl i) c) ∗ bigSep (Finset.Ico 0 g) (fun i => closed (F := F) (ax i) (sl i) c)))
  rw [show flying E.a E.k c = (flying (ax g) (sl g) c : sProp 𝕄) from by rw [ha, hk], show closed E.a E.k c = (closed (ax g) (sl g) c : sProp 𝕄) from by rw [ha, hk]] at h
  refine (h.pre ?_).post ?_
  · unfold exSt
    rw [ico_first hn]
    iintro ⟨⟨H2, ⟨H1, H3⟩, H4⟩, H5⟩
    isplitl [H1 H5]
    · isplitl [H1]; · iexact H1
      iexact H5
    isplitl [H2]; · iexact H2
    isplitl [H3]; · iexact H3
    iexact H4
  · unfold exSt
    rw [ico_last (Nat.zero_le g)]
    iintro ⟨⟨H1, H5⟩, H2, H3, H4⟩
    isplitr [H5]; swap; · iexact H5
    isplitl [H2]; · iexact H2
    isplitl [H3]; · iexact H3
    isplitl [H1]; · iexact H1
    iexact H4

/-! ## The handshake -/

/-- What the handshake starts from besides what is owed: its two duties, its place and credit at the device's own barrier, and the
    device's own receive slots. -/
def hsPre (c : Dev nD) : sProp 𝕄 :=
  iprop(dutyTok ER (barCell (py c)) 0 false ∗ dutyTok ER (barCell (px c)) 0 true ∗ atPos ER (barCell c) 0 ∅ 0 ∗ cred (tallyAt (barCell c) () 2)
    ∗ (bigSep Finset.univ fun k : Fin 6 => exAny true 0 k c) ∗ bigSep Finset.univ fun k : Fin 6 => exAny true 1 k c)

theorem run_handshake (c : Dev nD) :
    Runs m κ c iprop(hsPre c ∗ ∃ W, owes (c : Thread nD τ) (O₀ c) W) (handshake c) ⟨⟩
      iprop(semVal (barCell c) 0 ∗ (barPay false c ∗ barPay true c) ∗ ow c 0) := by
  intro K
  unfold handshake hsPre ow
  simp only [dev1_eq c, dev2_eq c, semSignalWord, semWaitWord, Prog.lift, Prog.bind_op, Prog.bind_ret, Prog.pure_eq_ret]
  iintro ⟨#HC, ⟨⟨HtY, HtX, Hat, Hcr, HsY, HsX⟩, ⟨%W, HO⟩⟩, HK⟩
  iapply (Rounds.wp_signal 𝒱₀ ER (sched m) (c : Thread nD τ) none (dst := (py c : Thread nD τ)) (κ := κ (py c, none))
      (d := false) (by show false ∈ (sched m).duties (cell (py c) none) 0; rw [duties_cell]; exact Finset.mem_univ _)
      ((amount_cell m (py c) none false).trans (by decide)) () (O₁ c) rfl) $$ [HO HtY HsY]
  · isplitr; · iapply (ctx_inv m κ (py c) none); iexact HC
    isplitl [HO]; · iexact HO
    isplitl [HtY]; · iexact HtY
    isplitl [HsY]
    · iapply (pay_bar m false (py c)); unfold barPay
      rw [show mate (axOf false) (py c) = c from py_py c]; iexact HsY
    iapply (ctx_reached m κ (py c) none); iexact HC
  iintro HO
  iapply (Rounds.wp_signal 𝒱₀ ER (sched m) (c : Thread nD τ) none (dst := (px c : Thread nD τ)) (κ := κ (px c, none))
      (d := true) (by show true ∈ (sched m).duties (cell (px c) none) 0; rw [duties_cell]; exact Finset.mem_univ _)
      ((amount_cell m (px c) none true).trans (by decide)) () (owed c 0) rfl) $$ [HO HtX HsX]
  · isplitr; · iapply (ctx_inv m κ (px c) none); iexact HC
    isplitl [HO]; · iexact HO
    isplitl [HtX]; · iexact HtX
    isplitl [HsX]
    · iapply (pay_bar m true (px c)); unfold barPay
      rw [show mate (axOf true) (px c) = c from px_px c]; iexact HsX
    iapply (ctx_reached m κ (px c) none); iexact HC
  iintro HO
  iapply (Rounds.wp_wait_rest_token 𝒱₀ ER (sched m) (c : Thread nD τ) none (κ := κ (c, none))
      (wpE_semWait_eq 𝒱₀ (c : Thread nD τ) none Set.univ) (Set.mem_univ _) () (O := owed c 0) (W := W) (R := 0) (m := 0) (T := ∅)
      (by rw [show ((c : Thread nD τ), SemLoc.reg barS) = barCell c from rfl, expect_bar]; decide)) $$ [Hcr HO Hat]
  · isplitr; · iapply (ctx_inv m κ c none); iexact HC
    isplitl [Hcr]; · iexact Hcr
    isplitl [HO]; · iexact HO
    isplitr
    · iapply (mayWait c (csem none) 0 (by rw [ckOf_csem]; show 1 < _; omega))
      iapply (ctx_lev m κ); iexact HC
    iexact Hat
  iintro ⟨HO, Hat, -, Hpay⟩
  ihave Hpay := (rest_bar_at m c) $$ Hpay
  imod (Rounds.cell_close ER (sched m) (Set.mem_univ (κ (c, none))) (fun h => h) (R := 0 + 1) (duties_later m (barCell c))) $$ [Hat] with Hz
  · isplitr; · iapply (ctx_inv m κ c none); iexact HC
    iexact Hat
  rw [wp_ret]; imodintro
  iapply HK
  isplitl [Hz]; · iexact Hz
  isplitl [Hpay]; · iexact Hpay
  iexists _; iexact HO

end Cert.KernelIdeal.Body

end
-- ==== Proof.KernelIdeal.Layers.lean ====
/-
  The body's run: from the device's ends of every exchange and both streams unused, through three layers, to the result
  in the output block and everything used handed back.
-/
module

public import proofs.«01_k».proof.Proof.KernelIdeal.Exchange

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × CK → ℕ)

/-! ## The two streams -/

/-- The array the first weights of a layer are, on a device; and the second. -/
def inLoc (l : ℕ) (c : Dev nD) : Loc nD τ sig := (inArr l).view.loc (c : Thread nD τ)
def outLoc (l : ℕ) (c : Dev nD) : Loc nD τ sig := (outArr l).view.loc (c : Thread nD τ)

set_option backward.proofsInPublic true in
def inS : Stream where
  n := 6
  T := 24
  n_pos := by decide
  slot := inSlot
  slot_add g := Fin.ext (Nat.add_mod_right g 6)
  sem := inSem
  sem_lv := by decide
  bs := S6x512x2048
  cs := S512x2048
  buf := Memref.whole cc0_scratch0
  rect := inRect
  stride _ _ := rfl
  sq _ := squeezes_S1x512x2048_S512x2048
  src := inSrc
  layer g := g / 8
  layer_lt g h := by omega
  loc := inLoc
  src_loc _ _ := rfl
  src_exact _ := View.wordExact_bits rfl
  dst_exact _ := (View.wordExact_bits rfl).reshape _ _
  loads _ := View.loadsAt_vmem h_S1x512x2048
  N := (inDst 0).view.dmaCredit
  credit _ := rfl
  N_pos := View.dmaCredit_pos _ (by decide)

set_option backward.proofsInPublic true in
def outS : Stream where
  n := 10
  T := 48
  n_pos := by decide
  slot := outSlot
  slot_add g := Fin.ext (Nat.add_mod_right g 10)
  sem := outSem
  sem_lv := by decide
  bs := S10x512x1024
  cs := S512x1024
  buf := Memref.whole cc0_scratch1
  rect := outRect
  stride _ _ := rfl
  sq _ := squeezes_S1x512x1024_S512x1024
  src := outSrc
  layer g := g / 16
  layer_lt g h := by omega
  loc := outLoc
  src_loc _ _ := rfl
  src_exact _ := View.wordExact_bits rfl
  dst_exact _ := (View.wordExact_bits rfl).reshape _ _
  loads _ := View.loadsAt_vmem h_S1x512x1024
  N := (outDst 0).view.dmaCredit
  credit _ := rfl
  N_pos := View.dmaCredit_pos _ (by decide)

/-! ## The state between steps, and the steps on it -/

/-- `n` exchanges sent and `g` over; `j` chunks of the first weights taken and `s` started; `u` of the second taken and `w` started. -/
def St (c : Dev nD) (n g j s u w : ℕ) : sProp 𝕄 := iprop((exSt c n g ∗ ow c n) ∗ inS.st m c j s ∗ outS.st m c u w)

variable {m κ}

section Steps
variable {c : Dev nD} {n g j s u w : ℕ}

theorem st_inStart (h₁ : j ≤ s) (h₂ : s < j + 6) : Runs m κ c (St m c n g j s u w) (inStart s) ⟨⟩ (St m c n g j (s + 1) u w) := by
  have h := (inS.run_start m κ c h₁ h₂).frame (X := iprop((exSt c n g ∗ ow c n) ∗ outS.st m c u w))
  refine (h.pre ?_).post ?_
  · unfold St
    iintro ⟨H1, H2, H3⟩
    isplitl [H2]; · iexact H2
    isplitl [H1]; · iexact H1
    iexact H3
  · unfold St
    iintro ⟨H2, H1, H3⟩
    isplitl [H1]; · iexact H1
    isplitl [H2]; · iexact H2
    iexact H3

theorem st_outStart (h₁ : u ≤ w) (h₂ : w < u + 10) : Runs m κ c (St m c n g j s u w) (outStart w) ⟨⟩ (St m c n g j s u (w + 1)) := by
  have h := (outS.run_start m κ c h₁ h₂).frame (X := iprop((exSt c n g ∗ ow c n) ∗ inS.st m c j s))
  refine (h.pre ?_).post ?_
  · unfold St
    iintro ⟨H1, H2, H3⟩
    isplitl [H3]; · iexact H3
    isplitl [H1]; · iexact H1
    iexact H2
  · unfold St
    iintro ⟨H2, H1, H3⟩
    isplitl [H1]; · iexact H1
    isplitl [H3]; · iexact H3
    iexact H2

/-- Take a chunk of the first weights, after a step on the exchanges alone. -/
theorem st_inTakeWith {α : Type} {g' : ℕ} {get : KProg F α} {v : α} (hj : j < 24)
    (hget : Runs m κ c iprop(exSt c n g ∗ ow c n) get v iprop(exSt c n g' ∗ ow c n)) :
    Runs m κ c (St m c n g j (j + 6) u w) (inTakeWith j get) (v, inLd m c j) (St m c n g' (j + 1) (j + 7) u w) := by
  unfold inTakeWith
  refine Runs.bind (R := iprop((inS.mid m c j ∗ ow c n) ∗ exSt c n g ∗ outS.st m c u w)) (v := ⟨⟩) ?_ ?_
  · refine ((inS.run_wait m κ c j n hj).frame (X := iprop(exSt c n g ∗ outS.st m c u w))).pre ?_
    unfold St
    iintro ⟨⟨H1, H2⟩, H3, H4⟩
    isplitl [H3 H2]
    · isplitl [H3]; · iexact H3
      iexact H2
    isplitl [H1]; · iexact H1
    iexact H4
  refine Runs.bind (R := iprop((exSt c n g' ∗ ow c n) ∗ inS.mid m c j ∗ outS.st m c u w)) (v := v) ?_ ?_
  · refine (hget.frame (X := iprop(inS.mid m c j ∗ outS.st m c u w))).pre ?_
    iintro ⟨⟨H3, H2⟩, H1, H4⟩
    isplitl [H1 H2]
    · isplitl [H1]; · iexact H1
      iexact H2
    isplitl [H3]; · iexact H3
    iexact H4
  refine Runs.bind (R := iprop(inS.mid m c j ∗ (exSt c n g' ∗ ow c n) ∗ outS.st m c u w)) (v := inLd m c j) ?_ ?_
  · refine ((inS.run_load m κ c j).frame (X := iprop((exSt c n g' ∗ ow c n) ∗ outS.st m c u w))).pre ?_
    iintro ⟨H1, H2, H3⟩
    isplitl [H2]; · iexact H2
    isplitl [H1]; · iexact H1
    iexact H3
  refine Runs.bind (R := St m c n g' (j + 1) (j + 7) u w) (v := ⟨⟩) ?_ (Runs.pure (Entails.refl _))
  refine ((inS.run_next m κ c j).frame (X := iprop((exSt c n g' ∗ ow c n) ∗ outS.st m c u w))).post ?_
  unfold St
  iintro ⟨H2, H1, H3⟩
  isplitl [H1]; · iexact H1
  isplitl [H2]; · iexact H2
  iexact H3

theorem st_inTake (hj : j < 24) : Runs m κ c (St m c n g j (j + 6) u w) (inTake j) (inLd m c j) (St m c n g (j + 1) (j + 7) u w) := by
  unfold inTake
  refine Runs.bind (R := iprop((inS.mid m c j ∗ ow c n) ∗ exSt c n g ∗ outS.st m c u w)) (v := ⟨⟩) ?_ ?_
  · refine ((inS.run_wait m κ c j n hj).frame (X := iprop(exSt c n g ∗ outS.st m c u w))).pre ?_
    unfold St
    iintro ⟨⟨H1, H2⟩, H3, H4⟩
    isplitl [H3 H2]
    · isplitl [H3]; · iexact H3
      iexact H2
    isplitl [H1]; · iexact H1
    iexact H4
  refine Runs.bind (R := iprop(inS.mid m c j ∗ (exSt c n g ∗ ow c n) ∗ outS.st m c u w)) (v := inLd m c j) ?_ ?_
  · refine ((inS.run_load m κ c j).frame (X := iprop((exSt c n g ∗ ow c n) ∗ outS.st m c u w))).pre ?_
    iintro ⟨⟨H2, H4⟩, H1, H3⟩
    isplitl [H2]; · iexact H2
    isplitl [H1 H4]
    · isplitl [H1]; · iexact H1
      iexact H4
    iexact H3
  refine Runs.bind (R := St m c n g (j + 1) (j + 7) u w) (v := ⟨⟩) ?_ (Runs.pure (Entails.refl _))
  refine ((inS.run_next m κ c j).frame (X := iprop((exSt c n g ∗ ow c n) ∗ outS.st m c u w))).post ?_
  unfold St
  iintro ⟨H2, H1, H3⟩
  isplitl [H1]; · iexact H1
  isplitl [H2]; · iexact H2
  iexact H3

theorem st_outTake (hu : u < 48) : Runs m κ c (St m c n g j s u (u + 10)) (outTake u) (outLd m c u) (St m c n g j s (u + 1) (u + 11)) := by
  unfold outTake
  refine Runs.bind (R := iprop((outS.mid m c u ∗ ow c n) ∗ exSt c n g ∗ inS.st m c j s)) (v := ⟨⟩) ?_ ?_
  · refine ((outS.run_wait m κ c u n hu).frame (X := iprop(exSt c n g ∗ inS.st m c j s))).pre ?_
    unfold St
    iintro ⟨⟨H1, H2⟩, H4, H3⟩
    isplitl [H3 H2]
    · isplitl [H3]; · iexact H3
      iexact H2
    isplitl [H1]; · iexact H1
    iexact H4
  refine Runs.bind (R := iprop(outS.mid m c u ∗ (exSt c n g ∗ ow c n) ∗ inS.st m c j s)) (v := outLd m c u) ?_ ?_
  · refine ((outS.run_load m κ c u).frame (X := iprop((exSt c n g ∗ ow c n) ∗ inS.st m c j s))).pre ?_
    iintro ⟨⟨H2, H4⟩, H1, H3⟩
    isplitl [H2]; · iexact H2
    isplitl [H1 H4]
    · isplitl [H1]; · iexact H1
      iexact H4
    iexact H3
  refine Runs.bind (R := St m c n g j s (u + 1) (u + 11)) (v := ⟨⟩) ?_ (Runs.pure (Entails.refl _))
  refine ((outS.run_next m κ c u).frame (X := iprop((exSt c n g ∗ ow c n) ∗ inS.st m c j s))).post ?_
  unfold St
  iintro ⟨H3, H1, H2⟩
  isplitl [H1]; · iexact H1
  isplitl [H2]; · iexact H2
  iexact H3

/-- A step on the exchanges alone. -/
theorem st_ex {α : Type} {p : KProg F α} {v : α} {n' g' : ℕ} (h : Runs m κ c iprop(exSt c n g ∗ ow c n) p v iprop(exSt c n' g' ∗ ow c n')) :
    Runs m κ c (St m c n g j s u w) p v (St m c n' g' j s u w) := h.frame

end Steps

/-! ## The sends and the gets of a layer -/

theorem run_ySend {c : Dev nD} {n g : ℕ} (k : Fin 6) (hn : n < 12) (hg : g ≤ n) (ha : ax n = 0) (hk : sl n = k)
    {v : FVec F S64x2048 .f32} (hv : shapeCast S1x64x2048 (truncf .bf16 v bitsLt_bf16_f32) shapeCasts_S64x2048_S1x64x2048 = ySnd m k c) :
    Runs m κ c iprop(exSt c n g ∗ ow c n) (ySend c k v) ⟨⟩ iprop(exSt c (n + 1) g ∗ ow c (n + 1)) := by
  have h := exSt_send m κ hn hg (yEx m k) (p := yDev k c) (yDev_eq k c) ha hk
  rw [show (yEx m k).snd c = ySnd m k c from rfl, ← hv] at h
  exact h

theorem run_xSend {c : Dev nD} {n g : ℕ} (k : Fin 6) (hn : n < 12) (hg : g ≤ n) (ha : ax n = 1) (hk : sl n = k)
    {v : FVec F S64x1024 .f32} (hv : shapeCast S1x64x1024 (truncf .bf16 v bitsLt_bf16_f32) shapeCasts_S64x1024_S1x64x1024 = xSnd m k c) :
    Runs m κ c iprop(exSt c n g ∗ ow c n) (xSend c k v) ⟨⟩ iprop(exSt c (n + 1) g ∗ ow c (n + 1)) := by
  have h := exSt_send m κ hn hg (xEx m k) (p := xDev k c) (xDev_eq k c) ha hk
  rw [show (xEx m k).snd c = xSnd m k c from rfl, ← hv] at h
  exact h

theorem run_yRelu {c : Dev nD} {n g : ℕ} (k : Fin 6) (hn : g < n) (hg : g < 12) (ha : ax g = 0) (hk : sl g = k) :
    Runs m κ c iprop(exSt c n g ∗ ow c n) (yRelu k) (reluSum (ySnd m k c, ySnd m k (py c))) iprop(exSt c n (g + 1) ∗ ow c n) := by
  unfold yRelu
  exact Runs.bind (v := (ySnd m k c, ySnd m k (py c))) (exSt_get m κ hn hg (yEx m k) ha hk) (Runs.pure (Entails.refl _))

theorem run_xGet {c : Dev nD} {n g : ℕ} (k : Fin 6) (hn : g < n) (hg : g < 12) (ha : ax g = 1) (hk : sl g = k) :
    Runs m κ c iprop(exSt c n g ∗ ow c n) (xGet k) (xSnd m k c, xSnd m k (px c)) iprop(exSt c n (g + 1) ∗ ow c n) :=
  exSt_get m κ hn hg (xEx m k) ha hk

theorem run_xTwo {c : Dev nD} {n g : ℕ} (k : Fin 6) (hn : g < n) (hg : g < 12) (ha : ax g = 1) (hk : sl g = k) :
    Runs m κ c iprop(exSt c n g ∗ ow c n) (xTwo k) (twoOf (plainSum (xSnd m k c, xSnd m k (px c)))) iprop(exSt c n (g + 1) ∗ ow c n) := by
  unfold xTwo
  exact Runs.bind (run_xGet k hn hg ha hk) (Runs.pure (Entails.refl _))

/-! ## The passes -/

section Passes
variable {c : Dev nD} {n g j s u w : ℕ}

theorem run_inPass {g₁ g₂ : ℕ} {get0 get1 : KProg F (Two F)} {a b : Two F} (hj : j + 3 < 24)
    (h0 : Runs m κ c iprop(exSt c n g ∗ ow c n) get0 a iprop(exSt c n g₁ ∗ ow c n))
    (h1 : Runs m κ c iprop(exSt c n g₁ ∗ ow c n) get1 b iprop(exSt c n g₂ ∗ ow c n)) :
    Runs m κ c (St m c n g j (j + 6) u w) (inPass j get0 get1)
      (a, b, addf (addf (addf (inDot a.1 (inLd m c j)) (inDot a.2 (inLd m c (j + 1)))) (inDot b.1 (inLd m c (j + 2)))) (inDot b.2 (inLd m c (j + 3))))
      (St m c n g₂ (j + 4) (j + 10) u w) := by
  unfold inPass
  refine Runs.bind (st_inTakeWith (by omega) h0) ?_
  refine Runs.bind (st_inTake (j := j + 1) (by omega)) ?_
  refine Runs.bind (st_inTakeWith (j := j + 2) (by omega) h1) ?_
  refine Runs.bind (st_inTake (j := j + 3) (by omega)) ?_
  exact Runs.pure (Entails.refl _)

theorem run_outPass {g₁ g₂ : ℕ} {get0 get1 : KProg F (FVec F S64x2048 .bf16)} {a b : FVec F S64x2048 .bf16} (hu : u + 7 < 48)
    (h0 : Runs m κ c iprop(exSt c n g ∗ ow c n) get0 a iprop(exSt c n g₁ ∗ ow c n))
    (h1 : Runs m κ c iprop(exSt c n g₁ ∗ ow c n) get1 b iprop(exSt c n g₂ ∗ ow c n)) :
    Runs m κ c (St m c n g j s u (u + 10)) (outPass u get0 get1)
      (a, b, addf (addf (addf (addf (addf (addf (addf (outDot (piece0 a) (outLd m c u)) (outDot (piece1 a) (outLd m c (u + 1)))) (outDot (piece2 a) (outLd m c (u + 2))))
        (outDot (piece3 a) (outLd m c (u + 3)))) (outDot (piece0 b) (outLd m c (u + 4)))) (outDot (piece1 b) (outLd m c (u + 5))))
        (outDot (piece2 b) (outLd m c (u + 6)))) (outDot (piece3 b) (outLd m c (u + 7))))
      (St m c n g₂ j s (u + 8) (u + 18)) := by
  unfold outPass
  refine Runs.bind (st_ex h0) ?_
  refine Runs.bind (st_outTake (by omega)) ?_
  refine Runs.bind (st_outTake (u := u + 1) (by omega)) ?_
  refine Runs.bind (st_outTake (u := u + 2) (by omega)) ?_
  refine Runs.bind (st_outTake (u := u + 3) (by omega)) ?_
  refine Runs.bind (st_ex h1) ?_
  refine Runs.bind (st_outTake (u := u + 4) (by omega)) ?_
  refine Runs.bind (st_outTake (u := u + 5) (by omega)) ?_
  refine Runs.bind (st_outTake (u := u + 6) (by omega)) ?_
  refine Runs.bind (st_outTake (u := u + 7) (by omega)) ?_
  exact Runs.pure (Entails.refl _)

end Passes

/-! ## The layers -/

section Layer

variable (c : Dev nD) (l : Fin 3)

theorem ySnd_A : ySnd m (slotA l) c = ySndOf m l 0 (opnd m l) c := by
  unfold ySnd slotA; dsimp only; rw [show 2 * l.val / 2 = l.val from by omega, show 2 * l.val % 2 = 0 from by omega]
theorem ySnd_B : ySnd m (slotB l) c = ySndOf m l 1 (opnd m l) c := by
  unfold ySnd slotB; dsimp only; rw [show (2 * l.val + 1) / 2 = l.val from by omega, show (2 * l.val + 1) % 2 = 1 from by omega]
theorem xSnd_A : xSnd m (slotA l) c = xSndOf m l 0 (opnd m l) c := by
  unfold xSnd slotA; dsimp only; rw [show 2 * l.val / 2 = l.val from by omega, show 2 * l.val % 2 = 0 from by omega]
theorem xSnd_B : xSnd m (slotB l) c = xSndOf m l 1 (opnd m l) c := by
  unfold xSnd slotB; dsimp only; rw [show (2 * l.val + 1) / 2 = l.val from by omega, show (2 * l.val + 1) % 2 = 1 from by omega]

theorem ax_sl (l : Fin 3) : (ax (4 * l.val) = 0 ∧ sl (4 * l.val) = slotA l) ∧ (ax (4 * l.val + 1) = 0 ∧ sl (4 * l.val + 1) = slotB l)
    ∧ (ax (4 * l.val + 2) = 1 ∧ sl (4 * l.val + 2) = slotA l) ∧ (ax (4 * l.val + 3) = 1 ∧ sl (4 * l.val + 3) = slotB l) := by revert l; decide

variable {c} {g₀ g₁ g₂ u w j s : ℕ}

/-- The first half of layer `l`, its operand as the layer before left it. -/
theorem run_layerIn {get0 get1 : KProg F (Two F)} (hg : g₂ ≤ 4 * l.val)
    (h0 : Runs m κ c iprop(exSt c (4 * l.val) g₀ ∗ ow c (4 * l.val)) get0 (opnd m l c).1 iprop(exSt c (4 * l.val) g₁ ∗ ow c (4 * l.val)))
    (h1 : Runs m κ c iprop(exSt c (4 * l.val) g₁ ∗ ow c (4 * l.val)) get1 (opnd m l c).2 iprop(exSt c (4 * l.val) g₂ ∗ ow c (4 * l.val))) :
    Runs m κ c (St m c (4 * l.val) g₀ (8 * l.val) (8 * l.val + 6) u w) (layerIn c l get0 get1) ⟨⟩
      (St m c (4 * l.val + 2) g₂ (8 * l.val + 8) (8 * l.val + 14) u w) := by
  unfold layerIn
  have hl := l.isLt
  obtain ⟨⟨hA, hA'⟩, ⟨hB, hB'⟩, -⟩ := ax_sl l
  refine Runs.bind (run_inPass (by omega) h0 h1) ?_
  refine Runs.bind (st_ex (run_ySend (slotA l) (by omega) hg hA hA' (ySnd_A c l).symm)) ?_
  refine Runs.bind (run_inPass (j := 8 * l.val + 4) (by omega) (Runs.pure (Entails.refl _)) (Runs.pure (Entails.refl _))) ?_
  exact st_ex (run_ySend (slotB l) (by omega) (by omega) hB hB' (ySnd_B c l).symm)

/-- The second half of layer `l`. -/
theorem run_layerOut :
    Runs m κ c (St m c (4 * l.val + 2) (4 * l.val) j s (16 * l.val) (16 * l.val + 10)) (layerOut c l) ⟨⟩
      (St m c (4 * l.val + 4) (4 * l.val + 2) j s (16 * l.val + 16) (16 * l.val + 26)) := by
  unfold layerOut
  have hl := l.isLt
  obtain ⟨⟨hA, hA'⟩, ⟨hB, hB'⟩, ⟨hC, hC'⟩, ⟨hD, hD'⟩⟩ := ax_sl l
  have h0 := run_yRelu (m := m) (κ := κ) (c := c) (n := 4 * l.val + 2) (slotA l) (by omega) (by omega) hA hA'
  have h1 := run_yRelu (m := m) (κ := κ) (c := c) (n := 4 * l.val + 2) (slotB l) (by omega) (by omega) hB hB'
  rw [ySnd_A, ySnd_A] at h0
  rw [ySnd_B, ySnd_B] at h1
  refine Runs.bind (run_outPass (by omega) h0 h1) ?_
  refine Runs.bind (st_ex (run_xSend (slotA l) (by omega) (by omega) hC hC' (xSnd_A c l).symm)) ?_
  refine Runs.bind (run_outPass (u := 16 * l.val + 8) (by omega) (Runs.pure (Entails.refl _)) (Runs.pure (Entails.refl _))) ?_
  exact st_ex (run_xSend (slotB l) (by omega) (by omega) hD hD' (xSnd_B c l).symm)

/-- A layer's result received, as the next layer's operand. -/
theorem run_nextA : Runs m κ c iprop(exSt c (4 * l.val + 4) (4 * l.val + 2) ∗ ow c (4 * l.val + 4)) (xTwo (slotA l)) (opnd m (l.val + 1) c).1
    iprop(exSt c (4 * l.val + 4) (4 * l.val + 3) ∗ ow c (4 * l.val + 4)) := by
  have hl := l.isLt
  obtain ⟨-, -, ⟨hC, hC'⟩, -⟩ := ax_sl l
  have h := run_xTwo (m := m) (κ := κ) (c := c) (n := 4 * l.val + 4) (slotA l) (by omega) (by omega) hC hC'
  rw [xSnd_A, xSnd_A] at h
  exact h
theorem run_nextB : Runs m κ c iprop(exSt c (4 * l.val + 4) (4 * l.val + 3) ∗ ow c (4 * l.val + 4)) (xTwo (slotB l)) (opnd m (l.val + 1) c).2
    iprop(exSt c (4 * l.val + 4) (4 * l.val + 4) ∗ ow c (4 * l.val + 4)) := by
  have hl := l.isLt
  obtain ⟨-, -, -, ⟨hD, hD'⟩⟩ := ax_sl l
  have h := run_xTwo (m := m) (κ := κ) (c := c) (n := 4 * l.val + 4) (slotB l) (by omega) (by omega) hD hD'
  rw [xSnd_B, xSnd_B] at h
  exact h

end Layer

/-! ## The fills, and the layers together -/

section Whole
variable {c : Dev nD}

theorem run_inFill : Runs m κ c (inS.st m c 0 0) inFill ⟨⟩ (inS.st m c 0 6) := by
  unfold inFill
  refine Runs.bind (inS.run_start m κ c (Nat.zero_le _) (by decide)) ?_
  refine Runs.bind (inS.run_start m κ c (Nat.zero_le _) (by decide)) ?_
  refine Runs.bind (inS.run_start m κ c (Nat.zero_le _) (by decide)) ?_
  refine Runs.bind (inS.run_start m κ c (Nat.zero_le _) (by decide)) ?_
  refine Runs.bind (inS.run_start m κ c (Nat.zero_le _) (by decide)) ?_
  exact inS.run_start m κ c (Nat.zero_le _) (by decide)

theorem run_outFill {n g j s : ℕ} : Runs m κ c (St m c n g j s 0 0) outFill ⟨⟩ (St m c n g j s 0 10) := by
  unfold outFill
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  refine Runs.bind (st_outStart (Nat.zero_le _) (by decide)) ?_
  exact st_outStart (Nat.zero_le _) (by decide)

/-- The three layers, from the device's columns of the input. -/
def layers (c : Dev nD) (v : Vec F S64x2048 .f32) : KProg F PUnit := do
  layerIn c 0 (pure (piece0 (actOf v), piece1 (actOf v))) (pure (piece2 (actOf v), piece3 (actOf v)))
  outFill
  layerOut c 0
  layerIn c 1 (xTwo (slotA 0)) (xTwo (slotB 0))
  layerOut c 1
  layerIn c 2 (xTwo (slotA 1)) (xTwo (slotB 1))
  layerOut c 2

theorem run_layers : Runs m κ c (St m c 0 0 0 6 0 0) (layers c (xBlk m c)) ⟨⟩ (St m c 12 10 24 30 48 58) := by
  unfold layers
  refine Runs.bind (run_layerIn (g₂ := 0) 0 (by decide) (Runs.pure (Entails.refl _)) (Runs.pure (Entails.refl _))) ?_
  refine Runs.bind run_outFill ?_
  refine Runs.bind (run_layerOut 0) ?_
  refine Runs.bind (run_layerIn (g₂ := 4) 1 (by decide) (run_nextA 0) (run_nextB 0)) ?_
  refine Runs.bind (run_layerOut 1) ?_
  refine Runs.bind (run_layerIn (g₂ := 8) 2 (by decide) (run_nextA 1) (run_nextB 1)) ?_
  exact run_layerOut 2

end Whole

end Cert.KernelIdeal.Body

end
-- ==== Proof.KernelIdeal.Body.lean ====
/-
  The whole body's run: from everything the device holds of the exchanges, of the streams and of the barrier, its block
  of the input in the input window, to its block of the result in the output window and everything handed back.
-/
module

public import proofs.«01_k».proof.Proof.KernelIdeal.Layers

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × CK → ℕ)

/-! ## Numbered families as families over the slots -/

omit [FloatOps F] in
/-- A family over slots, taken in the order of `N` consecutive numbers that name each slot once. -/
theorem bigSep_slots {B : Type} [Fintype B] (slot : ℕ → B) (T N : ℕ) (hb : Function.Bijective fun i : Fin N => slot (T + i.val)) (Φ : B → sProp 𝕄) :
    bigSep (Finset.Ico T (T + N)) (fun g => Φ (slot g)) = bigSep Finset.univ Φ := by
  rw [bigSep_univ_equiv (Equiv.ofBijective _ hb) Φ,
    show Finset.Ico T (T + N) = Finset.univ.map ⟨fun i : Fin N => T + i.val, fun i j h => Fin.ext (Nat.add_left_cancel h)⟩ from by
      ext x
      simp only [Finset.mem_Ico, Finset.mem_map, Finset.mem_univ, true_and, Function.Embedding.coeFn_mk]
      exact ⟨fun h => ⟨⟨x - T, by omega⟩, by show T + (x - T) = x; omega⟩, fun ⟨i, hi⟩ => by have h1 := i.isLt; have h2 : T + i.val = x := hi; omega⟩,
    bigSep_map]
  rfl

set_option backward.proofsInPublic true in
/-- The axis and the slot of the `i`-th exchange. -/
def place (i : ℕ) : Fin 2 × Fin 6 := (ax i, sl i)
theorem place_bij : Function.Bijective fun i : Fin 12 => place (0 + i.val) := by decide
theorem inSlot_bij0 : Function.Bijective fun i : Fin 6 => inSlot (0 + i.val) := by decide
theorem inSlot_bij : Function.Bijective fun i : Fin 6 => inSlot (24 + i.val) := by decide
theorem outSlot_bij0 : Function.Bijective fun i : Fin 10 => outSlot (0 + i.val) := by decide
theorem outSlot_bij : Function.Bijective fun i : Fin 10 => outSlot (48 + i.val) := by decide

omit [FloatOps F] in
/-- The twelve exchanges in order are the two axes' six slots. -/
theorem bigSep_place (Φ : Fin 2 → Fin 6 → sProp 𝕄) :
    bigSep (Finset.Ico 0 12) (fun i => Φ (ax i) (sl i)) = bigSep Finset.univ fun p : Fin 2 × Fin 6 => Φ p.1 p.2 :=
  bigSep_slots place 0 12 place_bij fun p => Φ p.1 p.2

omit [FloatOps F] in
theorem bigSep_axes (Φ : Fin 2 → Fin 6 → sProp 𝕄) :
    (bigSep Finset.univ fun p : Fin 2 × Fin 6 => Φ p.1 p.2) = iprop((bigSep Finset.univ fun k : Fin 6 => Φ 0 k) ∗ bigSep Finset.univ fun k : Fin 6 => Φ 1 k) := by
  rw [bigSep_univ_prod, bigSep_univ_eq_bigSepL [(0 : Fin 2), 1] (by decide) (by decide), bigSepL_cons_cons, bigSepL_singleton]
  rfl

/-! ## The streams at their two ends -/

/-- Every slot unused. -/
def inIdle (c : Dev nD) : sProp 𝕄 := bigSep Finset.univ fun k : Fin 6 => inS.idle c k
def outIdle (c : Dev nD) : sProp 𝕄 := bigSep Finset.univ fun k : Fin 10 => outS.idle c k

theorem in_begin (c : Dev nD) : iprop(inIdle c ∗ inS.arrs m c) ⊢ inS.st m c 0 0 := by
  unfold inIdle Stream.st
  iintro ⟨H1, H2⟩
  isplitr
  · rw [Finset.Ico_self, bigSep_empty]; iempintro
  isplitl [H1]
  · ihave H1 := (Entails.of_eq (bigSep_slots inSlot 0 6 inSlot_bij0 fun k => (inS.idle c k : sProp 𝕄)).symm) $$ H1
    iexact H1
  iexact H2
theorem out_begin (c : Dev nD) : iprop(outIdle c ∗ outS.arrs m c) ⊢ outS.st m c 0 0 := by
  unfold outIdle Stream.st
  iintro ⟨H1, H2⟩
  isplitr
  · rw [Finset.Ico_self, bigSep_empty]; iempintro
  isplitl [H1]
  · ihave H1 := (Entails.of_eq (bigSep_slots outSlot 0 10 outSlot_bij0 fun k => (outS.idle c k : sProp 𝕄)).symm) $$ H1
    iexact H1
  iexact H2

theorem in_end (c : Dev nD) : inS.st m c 24 30 ⊢ inIdle c := by
  have h : bigSep (Finset.Ico 24 30) (inS.fly m c) = bigSep (Finset.Ico 24 30) (fun g => (inS.idle c (inS.slot g) : sProp 𝕄)) :=
    bigSep_congr fun g hg => if_neg (Nat.not_lt.mpr (Finset.mem_Ico.mp hg).1)
  unfold inIdle Stream.st
  rw [h]
  iintro ⟨H1, -, -⟩
  ihave H1 := (show bigSep (Finset.Ico 24 30) (fun g => (inS.idle c (inS.slot g) : sProp 𝕄)) ⊢ _ from
    Entails.of_eq (bigSep_slots inSlot 24 6 inSlot_bij fun k => (inS.idle c k : sProp 𝕄))) $$ H1
  iexact H1
theorem out_end (c : Dev nD) : outS.st m c 48 58 ⊢ outIdle c := by
  have h : bigSep (Finset.Ico 48 58) (outS.fly m c) = bigSep (Finset.Ico 48 58) (fun g => (outS.idle c (outS.slot g) : sProp 𝕄)) :=
    bigSep_congr fun g hg => if_neg (Nat.not_lt.mpr (Finset.mem_Ico.mp hg).1)
  unfold outIdle Stream.st
  rw [h]
  iintro ⟨H1, -, -⟩
  ihave H1 := (show bigSep (Finset.Ico 48 58) (fun g => (outS.idle c (outS.slot g) : sProp 𝕄)) ⊢ _ from
    Entails.of_eq (bigSep_slots outSlot 48 10 outSlot_bij fun k => (outS.idle c k : sProp 𝕄))) $$ H1
  iexact H1

/-! ## The exchanges at their two ends -/

theorem ex_begin (c : Dev nD) :
    iprop((bigSep Finset.univ fun p : Fin 2 × Fin 6 => rdy p.1 p.2 c) ∗ (barPay false c ∗ barPay true c)) ⊢ exSt (F := F) c 0 0 := by
  unfold exSt
  rw [bigSep_place (fun a k => opened (F := F) a k c), Finset.Ico_self, bigSep_empty, bigSep_empty]
  unfold opened
  rw [bigSep_sep', bigSep_axes (fun a k => exAny (F := F) true a k (mate a c))]
  unfold barPay
  iintro ⟨H1, H2, H3⟩
  isplitl
  · isplitl [H1]; · iexact H1
    isplitl [H2]; · iexact H2
    iexact H3
  isplitr <;> iempintro

theorem ex_end (c : Dev nD) : exSt (F := F) c 12 12 ⊢ bigSep Finset.univ fun p : Fin 2 × Fin 6 => closed p.1 p.2 c := by
  unfold exSt
  rw [bigSep_place (fun a k => closed (F := F) a k c)]
  iintro ⟨-, -, H⟩
  iexact H

/-! ## The result -/

set_option backward.proofsInPublic true in
/-- An element's place within its half. -/
def halfIdx (i : S64x2048.Idx) : S64x1024.Idx := fun a =>
  ⟨(![(i 0).val, (i 1).val % 1024] : Fin 2 → ℕ) a, by
    match a with
    | 0 => exact (i 0).isLt
    | 1 => exact Nat.mod_lt _ (by decide)⟩

/-- What device `c` leaves in its block of the result. -/
def outAt (c : Dev nD) : Vec F S64x2048 .f32 := fun i =>
  if (i 1).val < 1024 then resOf m 2 0 (opnd m 2) c (halfIdx i) else resOf m 2 1 (opnd m 2) c (halfIdx i)

/-- The two halves of the result's block. -/
abbrev oRect0 : Rect S64x2048 := Rect.unit (s := S64x2048) ![0, 0] S64x1024.size inb_S64x2048_S64x1024_0_0
abbrev oRect1 : Rect S64x2048 := Rect.unit (s := S64x2048) ![0, 1024] S64x1024.size inb_S64x2048_S64x1024_0_1024
abbrev xM : Memref sig .tc .vmem S64x2048 .f32 := Memref.whole cc0_stg0_0
abbrev oM : Memref sig .tc .vmem S64x2048 .f32 := Memref.whole cc0_stg1_0

theorem write_left (f : Vec F S64x2048 .f32) (v : FVec F S64x1024 .f32) (i : S64x2048.Idx) (h : (i 1).val < 1024) :
    (oM.access oRect0).write (Elt F) f v Finset.univ i = v (halfIdx i) := by
  have hi : (oM.access oRect0).emb (halfIdx i) = i := by
    funext a; apply Fin.ext
    match a with
    | 0 => show 0 + 1 * (i 0).val = (i 0).val; omega
    | 1 => show 0 + 1 * ((i 1).val % 1024) = (i 1).val; omega
  have := View.write_emb_of_mem (v := oM.access oRect0) (Val := Elt F) f v (Finset.mem_univ (halfIdx i))
  rw [hi] at this
  exact this
theorem write_right (f : Vec F S64x2048 .f32) (v : FVec F S64x1024 .f32) (i : S64x2048.Idx) (h : ¬ (i 1).val < 1024) :
    (oM.access oRect1).write (Elt F) f v Finset.univ i = v (halfIdx i) := by
  have h1 : (i 1).val < 2048 := (i 1).isLt
  have hi : (oM.access oRect1).emb (halfIdx i) = i := by
    funext a; apply Fin.ext
    match a with
    | 0 => show 0 + 1 * (i 0).val = (i 0).val; omega
    | 1 => show 1024 + 1 * ((i 1).val % 1024) = (i 1).val; omega
  have := View.write_emb_of_mem (v := oM.access oRect1) (Val := Elt F) f v (Finset.mem_univ (halfIdx i))
  rw [hi] at this
  exact this
theorem write_right_off (f : Vec F S64x2048 .f32) (v : FVec F S64x1024 .f32) (i : S64x2048.Idx) (h : (i 1).val < 1024) :
    (oM.access oRect1).write (Elt F) f v Finset.univ i = f i := by
  refine View.write_of_not_mem (v := oM.access oRect1) (Val := Elt F) f v Finset.univ fun hi => ?_
  have hi : i ∈ ((View.whole cc0_stg1_0).slice oRect1).set := hi
  rw [View.set_slice_whole] at hi
  have := (Rect.mem_set_unit.mp hi 1).1
  have h2 : (![0, 1024] : Fin 2 → ℕ) 1 ≤ (i 1).val := this
  have h3 : 1024 ≤ (i 1).val := h2
  omega

/-- The two stores leave the result's block, whatever was there. -/
theorem two_writes (c : Dev nD) (f : Vec F S64x2048 .f32) :
    (oM.access oRect1).write (Elt F) ((oM.access oRect0).write (Elt F) f (resOf m 2 0 (opnd m 2) c) Finset.univ) (resOf m 2 1 (opnd m 2) c) Finset.univ
      = outAt m c := by
  funext i
  unfold outAt
  by_cases h : (i 1).val < 1024
  · rw [write_right_off _ _ i h, write_left _ _ i h, if_pos h]
  · rw [write_right _ _ i h, if_neg h]

/-! ## The body -/

/-- A whole window buffer of device `c`. -/
abbrev stg (c : Dev nD) (b : Ref sig .tc) (f : Buf (Elt F) ((c : Thread nD τ).loc b)) : sProp 𝕄 := ((c : Thread nD τ).loc b) ↦{fullShare} f

variable {m κ} in
/-- A half of the result received and stored. -/
theorem run_outHalf {c : Dev nD} {get : KProg F (Vec F S1x64x1024 .bf16 × Vec F S1x64x1024 .bf16)} {p : Vec F S1x64x1024 .bf16 × Vec F S1x64x1024 .bf16}
    {P Q : sProp 𝕄} (hget : Runs m κ c P get p Q) (r : Rect S64x2048) (hl : oM.view.LoadsAt r.toLoadRect) (hs : (oM.access r).Stores Finset.univ) (hm : Finset.univ = Finset.univ ∨ ∀ a, r.stride a = 1)
    (f : Buf (Elt F) ((c : Thread nD τ).loc cc0_stg1_0)) (st : (Vec F S1x64x1024 .bf16 × Vec F S1x64x1024 .bf16) → r.shape.Idx → Elt F .f32) :
    Runs m κ c iprop(P ∗ stg c cc0_stg1_0 f)
      (do let p ← get
          let _ ← Prog.lift (.load oM r.toLoadRect hl)
          Prog.lift (.store oM r (st p) Finset.univ hs hm)) ⟨⟩
      iprop(Q ∗ stg c cc0_stg1_0 ((oM.access r).write (Elt F) f (st p) Finset.univ)) := by
  refine Runs.bind hget.frame fun K => ?_
  simp only [Prog.lift, Prog.bind_op, Prog.bind_ret, Prog.pure_eq_ret]
  iintro ⟨-, ⟨HQ, Ho⟩, HK⟩
  iapply (wp_load 𝒱₀ (c : Thread nD τ) none Set.univ (m := oM) (r := r.toLoadRect) (Finset.subset_univ _)) $$ Ho
  iintro Ho
  iapply (wp_store 𝒱₀ (c : Thread nD τ) none Set.univ (m := oM) (r := r) (Mk := Finset.univ) (Finset.subset_univ _)) $$ Ho
  iintro Ho
  rw [wp_ret]; imodintro
  iapply HK
  isplitl [HQ]; · iexact HQ
  iexact Ho

/-- What the device starts from, besides the two windows; -/
def bodyStart (c : Dev nD) : sProp 𝕄 :=
  iprop((bigSep Finset.univ fun p : Fin 2 × Fin 6 => rdy p.1 p.2 c) ∗ hsPre c ∗ (inIdle c ∗ inS.arrs m c) ∗ (outIdle c ∗ outS.arrs m c)
    ∗ ∃ W, owes (c : Thread nD τ) (O₀ c) W)
/-- and what it ends with. -/
def bodyEnd (c : Dev nD) : sProp 𝕄 :=
  iprop((bigSep Finset.univ fun p : Fin 2 × Fin 6 => closed p.1 p.2 c) ∗ semVal (barCell c) 0 ∗ inIdle c ∗ outIdle c
    ∗ ∃ W, owes (c : Thread nD τ) 0 W)

variable {m κ} in
theorem run_body (c : Dev nD) (f : Buf (Elt F) ((c : Thread nD τ).loc cc0_stg1_0)) :
    Runs m κ c iprop(bodyStart m c ∗ stg c cc0_stg0_0 (xBlk m c) ∗ stg c cc0_stg1_0 f) (bodyOn xM oM c) ⟨⟩
      iprop(bodyEnd c ∗ stg c cc0_stg0_0 (xBlk m c) ∗ stg c cc0_stg1_0 (outAt m c)) := by
  have hb : bodyOn (F := F) xM oM c = (do
      inFill
      handshake c
      let v ← Prog.lift (.load xM (Rect.unit (s := S64x2048) ![0, 0] S64x2048.size inb_S64x2048_S64x2048_0_0).toLoadRect (View.loadsAt_vmem h_S64x2048))
      layers c v
      outHalf0 oM
      outHalf1 oM) := by
    unfold bodyOn layers
    simp only [bind_assoc]
  rw [hb]
  refine Runs.bind (v := ⟨⟩) (R := iprop(((bigSep Finset.univ fun p : Fin 2 × Fin 6 => rdy p.1 p.2 c) ∗ (outIdle c ∗ outS.arrs m c) ∗ stg c cc0_stg0_0 (xBlk m c) ∗ stg c cc0_stg1_0 f)
      ∗ inS.st m c 0 6 ∗ hsPre c ∗ ∃ W, owes (c : Thread nD τ) (O₀ c) W)) ?_ ?_
  · refine ((run_inFill (m := m) (κ := κ) (c := c)).frame (X := iprop(((bigSep Finset.univ fun p : Fin 2 × Fin 6 => rdy p.1 p.2 c) ∗ (outIdle c ∗ outS.arrs m c) ∗ stg c cc0_stg0_0 (xBlk m c) ∗ stg c cc0_stg1_0 f)
      ∗ hsPre c ∗ ∃ W, owes (c : Thread nD τ) (O₀ c) W))).pre ?_ |>.post ?_
    · unfold bodyStart
      iintro ⟨⟨H1, H2, H3, H4, H5⟩, H6, H7⟩
      isplitl [H3]; · iapply (in_begin m c); iexact H3
      isplitr [H2 H5]
      · isplitl [H1]; · iexact H1
        isplitl [H4]; · iexact H4
        isplitl [H6]; · iexact H6
        iexact H7
      isplitl [H2]; · iexact H2
      iexact H5
    · iintro ⟨H1, H2, H3⟩
      isplitl [H2]; · iexact H2
      isplitl [H1]; · iexact H1
      iexact H3
  refine Runs.bind (v := ⟨⟩) (R := iprop(semVal (barCell c) 0 ∗ St m c 0 0 0 6 0 0 ∗ stg c cc0_stg0_0 (xBlk m c) ∗ stg c cc0_stg1_0 f)) ?_ ?_
  · refine ((run_handshake m κ c).frame (X := iprop(((bigSep Finset.univ fun p : Fin 2 × Fin 6 => rdy p.1 p.2 c) ∗ (outIdle c ∗ outS.arrs m c) ∗ stg c cc0_stg0_0 (xBlk m c) ∗ stg c cc0_stg1_0 f)
      ∗ inS.st m c 0 6))).pre ?_ |>.post ?_
    · iintro ⟨H1, H2, H3⟩
      isplitl [H3]; · iexact H3
      isplitl [H1]; · iexact H1
      iexact H2
    · unfold St
      iintro ⟨⟨H1, H2, H3⟩, ⟨H4, H5, H6, H7⟩, H8⟩
      isplitl [H1]; · iexact H1
      isplitr [H6 H7]; swap
      · isplitl [H6]; · iexact H6
        iexact H7
      isplitl [H2 H3 H4]
      · isplitr [H3]; swap; · iexact H3
        iapply (ex_begin (F := F) c)
        isplitl [H4]; · iexact H4
        iexact H2
      isplitl [H8]; · iexact H8
      iapply (out_begin m c); iexact H5
  refine Runs.bind (v := xBlk m c) (R := iprop(semVal (barCell c) 0 ∗ St m c 0 0 0 6 0 0 ∗ stg c cc0_stg0_0 (xBlk m c) ∗ stg c cc0_stg1_0 f)) ?_ ?_
  · intro K
    simp only [Prog.lift]
    iintro ⟨-, ⟨H1, H2, Hx, H4⟩, HK⟩
    iapply (wp_load 𝒱₀ (c : Thread nD τ) none Set.univ (m := xM) (r := (Rect.unit (s := S64x2048) ![0, 0] S64x2048.size inb_S64x2048_S64x2048_0_0).toLoadRect) (Finset.subset_univ _)) $$ Hx
    iintro Hx
    rw [show xM.view.readAt (Elt F) (Rect.unit (s := S64x2048) ![0, 0] S64x2048.size inb_S64x2048_S64x2048_0_0).toLoadRect (xBlk m c) = xBlk m c from
      Memref.readAt_unit_zero (Elt F) cc0_stg0_0 (by decide) _ (xBlk m c), wp_ret]
    imodintro
    iapply HK
    isplitl [H1]; · iexact H1
    isplitl [H2]; · iexact H2
    isplitl [Hx]; · iexact Hx
    iexact H4
  refine Runs.bind (v := ⟨⟩) (R := iprop(St m c 12 10 24 30 48 58 ∗ semVal (barCell c) 0 ∗ stg c cc0_stg0_0 (xBlk m c) ∗ stg c cc0_stg1_0 f)) ?_ ?_
  · refine (run_layers.frame (X := iprop(semVal (barCell c) 0 ∗ stg c cc0_stg0_0 (xBlk m c) ∗ stg c cc0_stg1_0 f))).pre ?_
    iintro ⟨H1, H2, H3⟩
    isplitl [H2]; · iexact H2
    isplitl [H1]; · iexact H1
    iexact H3
  have g0 := run_xGet (m := m) (κ := κ) (c := c) (n := 12) (g := 10) 4 (by decide) (by decide) (by decide) (by decide)
  have g1 := run_xGet (m := m) (κ := κ) (c := c) (n := 12) (g := 11) 5 (by decide) (by decide) (by decide) (by decide)
  have o0 := (run_outHalf g0 oRect0 (View.loadsAt_vmem h_S64x1024) (View.stores_vmem_bits_univ h_S64x1024 rfl) (.inl rfl) f (fun p => plainSum p)).frame
    (X := iprop(inS.st m c 24 30 ∗ outS.st m c 48 58 ∗ semVal (barCell c) 0 ∗ stg c cc0_stg0_0 (xBlk m c)))
  have o1 := (run_outHalf g1 oRect1 (View.loadsAt_vmem h_S64x1024) (View.stores_vmem_bits_univ h_S64x1024 rfl) (.inl rfl)
    ((oM.access oRect0).write (Elt F) f (plainSum (xSnd m 4 c, xSnd m 4 (px c))) Finset.univ) (fun p => plainSum p)).frame
    (X := iprop(inS.st m c 24 30 ∗ outS.st m c 48 58 ∗ semVal (barCell c) 0 ∗ stg c cc0_stg0_0 (xBlk m c)))
  refine Runs.bind (v := ⟨⟩) (o0.pre ?_) (o1.post ?_)
  · unfold St
    iintro ⟨⟨H1, H2, H3⟩, H4, H5, H6⟩
    isplitl [H1 H6]
    · isplitl [H1]; · iexact H1
      iexact H6
    isplitl [H2]; · iexact H2
    isplitl [H3]; · iexact H3
    isplitl [H4]; · iexact H4
    iexact H5
  · rw [show plainSum (xSnd m 4 c, xSnd m 4 (px c)) = resOf m 2 0 (opnd m 2) c from by
        rw [show (4 : Fin 6) = slotA 2 from rfl, xSnd_A, xSnd_A]; rfl,
      show plainSum (xSnd m 5 c, xSnd m 5 (px c)) = resOf m 2 1 (opnd m 2) c from by
        rw [show (5 : Fin 6) = slotB 2 from rfl, xSnd_B, xSnd_B]; rfl, two_writes]
    unfold bodyEnd ow
    rw [owed_end]
    iintro ⟨⟨⟨H1, H2⟩, H3⟩, H4, H5, H6, H7⟩
    isplitr [H3 H7]; swap
    · isplitl [H7]; · iexact H7
      iexact H3
    isplitl [H1]; · iapply (ex_end (F := F) c); iexact H1
    isplitl [H6]; · iexact H6
    isplitl [H4]; · iapply (in_end m c); iexact H4
    isplitl [H5]; · iapply (out_end m c); iexact H5
    iexact H2

end Cert.KernelIdeal.Body

end
-- ==== Proof.KernelIdeal.Launch.lean ====
/-
  The launch: from the memory and the zero semaphores to what each device starts from, and the run of the whole program.
-/
module

public import proofs.«01_k».proof.Proof.KernelIdeal.Body

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer as its slots -/

section WholeSlots

variable {n : ℕ} (b : Ref sig .tc) (r : Fin n → Rect b.ty.shape)

/-- Slot `k` of a buffer at some contents. -/
def slotOf (c : Dev nD) (k : Fin n) : sProp 𝕄 :=
  iprop(∃ f : Buf (Elt F) ((c : Thread nD τ).loc b), ((c : Thread nD τ).loc b) ↦[((View.whole b).slice (r k)).set]{fullShare} f)

omit [FloatOps F] in
theorem slot_intro (c : Dev nD) (k : Fin n) (f : Buf (Elt F) ((c : Thread nD τ).loc b)) :
    (((c : Thread nD τ).loc b) ↦[(r k).set]{fullShare} f : sProp 𝕄) ⊢ slotOf b r c k := by
  unfold slotOf
  rw [View.set_slice_whole]
  iintro H; iexists f; iexact H

variable (hd : ∀ k k', k ≠ k' → Disjoint (r k).set (r k').set) (hc : Finset.univ.biUnion (fun k => (r k).set) = Finset.univ)

omit [FloatOps F] in
include hd hc in
theorem to_slots (c : Dev nD) :
    iprop(∃ f : Buf (Elt F) ((c : Thread nD τ).loc b), ((c : Thread nD τ).loc b) ↦{fullShare} f) ⊢ (bigSep Finset.univ fun k => slotOf b r c k : sProp 𝕄) := by
  iintro ⟨%f, H⟩
  ihave H := (Entails.of_eq (Ring.pointsTo_blocks (ℓ := (c : Thread nD τ).loc b) (fun k => (r k).set) hd hc (q := fullShare) f)) $$ H
  iapply (show (bigSep Finset.univ fun k => (((c : Thread nD τ).loc b) ↦[(r k).set]{fullShare} f : sProp 𝕄)) ⊢ bigSep Finset.univ fun k => slotOf b r c k
    from bigSep_mono fun k _ => slot_intro b r c k f)
  iexact H

omit [FloatOps F] in
include hd hc in
theorem of_slots (c : Dev nD) (f₀ : Buf (Elt F) ((c : Thread nD τ).loc b)) :
    (bigSep Finset.univ fun k => slotOf b r c k : sProp 𝕄) ⊢ iprop(∃ f : Buf (Elt F) ((c : Thread nD τ).loc b), ((c : Thread nD τ).loc b) ↦{fullShare} f) := by
  unfold slotOf
  simp only [View.set_slice_whole]
  exact Ring.pointsTo_blocks_join_exists (ℓ := (c : Thread nD τ).loc b) (fun k => (r k).set) hd hc f₀

end WholeSlots

theorem in_disj : ∀ k k', k ≠ k' → Disjoint (inRect k).set (inRect k').set :=
  Ring.lead_disjoint (s := S6x512x2048) (0 : Fin 3) 1 (fun k : Fin 6 => ![k.val, 0, 0]) S1x512x2048.size inb_inSlot (fun k => (Nat.one_mul _).symm) rfl
theorem in_cover : Finset.univ.biUnion (fun k => (inRect k).set) = Finset.univ :=
  Ring.lead_cover (s := S6x512x2048) (0 : Fin 3) 1 (fun k : Fin 6 => ![k.val, 0, 0]) S1x512x2048.size inb_inSlot (fun k => (Nat.one_mul _).symm)
    (by decide) rfl (by decide) rfl
theorem out_disj : ∀ k k', k ≠ k' → Disjoint (outRect k).set (outRect k').set :=
  Ring.lead_disjoint (s := S10x512x1024) (0 : Fin 3) 1 (fun k : Fin 10 => ![k.val, 0, 0]) S1x512x1024.size inb_outSlot (fun k => (Nat.one_mul _).symm) rfl
theorem out_cover : Finset.univ.biUnion (fun k => (outRect k).set) = Finset.univ :=
  Ring.lead_cover (s := S10x512x1024) (0 : Fin 3) 1 (fun k : Fin 10 => ![k.val, 0, 0]) S1x512x1024.size inb_outSlot (fun k => (Nat.one_mul _).symm)
    (by decide) rfl (by decide) rfl
theorem y_disj : ∀ k k', k ≠ k' → Disjoint (yRect k).set (yRect k').set :=
  Ring.lead_disjoint (s := S6x64x2048) (0 : Fin 3) 1 (fun k : Fin 6 => ![k.val, 0, 0]) S1x64x2048.size inb_ySlot (fun k => (Nat.one_mul _).symm) rfl
theorem y_cover : Finset.univ.biUnion (fun k => (yRect k).set) = Finset.univ :=
  Ring.lead_cover (s := S6x64x2048) (0 : Fin 3) 1 (fun k : Fin 6 => ![k.val, 0, 0]) S1x64x2048.size inb_ySlot (fun k => (Nat.one_mul _).symm)
    (by decide) rfl (by decide) rfl
theorem x_disj : ∀ k k', k ≠ k' → Disjoint (xRect k).set (xRect k').set :=
  Ring.lead_disjoint (s := S6x64x1024) (0 : Fin 3) 1 (fun k : Fin 6 => ![k.val, 0, 0]) S1x64x1024.size inb_xSlot (fun k => (Nat.one_mul _).symm) rfl
theorem x_cover : Finset.univ.biUnion (fun k => (xRect k).set) = Finset.univ :=
  Ring.lead_cover (s := S6x64x1024) (0 : Fin 3) 1 (fun k : Fin 6 => ![k.val, 0, 0]) S1x64x1024.size inb_xSlot (fun k => (Nat.one_mul _).symm)
    (by decide) rfl (by decide) rfl

/-- The six scratch buffers whole are the slots of the two streams and of the exchanges; -/
def slots (c : Dev nD) : sProp 𝕄 :=
  iprop((bigSep Finset.univ fun k : Fin 6 => slotOf cc0_scratch0 inRect c k) ∗ (bigSep Finset.univ fun k : Fin 10 => slotOf cc0_scratch1 outRect c k)
    ∗ (bigSep Finset.univ fun p : Fin 2 × Fin 6 => exAny false p.1 p.2 c) ∗ bigSep Finset.univ fun p : Fin 2 × Fin 6 => exAny true p.1 p.2 c)

theorem slots_of (c : Dev nD) : Pipeline.scopedRest cfg0.spec c ⊢ (slots c : sProp 𝕄) := by
  rw [show (Pipeline.scopedRest cfg0.spec c : sProp 𝕄) = Pipeline.scopedRest spec0 c from rfl, scopedRest0_eq]
  unfold slots
  rw [bigSep_axes (fun a k => exAny (F := F) false a k c), bigSep_axes (fun a k => exAny (F := F) true a k c)]
  iintro ⟨H0, H1, H2, H3, H4, H5⟩
  isplitl [H0]; · iapply (to_slots cc0_scratch0 inRect in_disj in_cover c); iexact H0
  isplitl [H1]; · iapply (to_slots cc0_scratch1 outRect out_disj out_cover c); iexact H1
  isplitl [H2 H4]
  · isplitl [H2]
    · iapply (to_slots cc0_scratch2 yRect y_disj y_cover c); iexact H2
    iapply (to_slots cc0_scratch4 xRect x_disj x_cover c); iexact H4
  isplitl [H3]
  · iapply (to_slots cc0_scratch3 yRect y_disj y_cover c); iexact H3
  iapply (to_slots cc0_scratch5 xRect x_disj x_cover c); iexact H5

include m in
/-- and back. -/
theorem of_slots_all (c : Dev nD) : slots c ⊢ (Pipeline.scopedRest cfg0.spec c : sProp 𝕄) := by
  rw [show (Pipeline.scopedRest cfg0.spec c : sProp 𝕄) = Pipeline.scopedRest spec0 c from rfl, scopedRest0_eq]
  unfold slots
  rw [bigSep_axes (fun a k => exAny (F := F) false a k c), bigSep_axes (fun a k => exAny (F := F) true a k c)]
  iintro ⟨H0, H1, ⟨H2, H4⟩, H3, H5⟩
  isplitl [H0]; · iapply (of_slots cc0_scratch0 inRect in_disj in_cover c (m _)); iexact H0
  isplitl [H1]; · iapply (of_slots cc0_scratch1 outRect out_disj out_cover c (m _)); iexact H1
  isplitl [H2]; · iapply (of_slots cc0_scratch2 yRect y_disj y_cover c (m _)); iexact H2
  isplitl [H3]; · iapply (of_slots cc0_scratch3 yRect y_disj y_cover c (m _)); iexact H3
  isplitl [H4]; · iapply (of_slots cc0_scratch4 xRect x_disj x_cover c (m _)); iexact H4
  iapply (of_slots cc0_scratch5 xRect x_disj x_cover c (m _)); iexact H5

/-! ## What a device holds before and after its body -/

/-- The streams' semaphores at zero. -/
def inZero (c : Dev nD) : sProp 𝕄 := bigSep Finset.univ fun k : Fin 6 => semVal ((c : Thread nD τ), .dma (inSem k)) 0
def outZero (c : Dev nD) : sProp 𝕄 := bigSep Finset.univ fun k : Fin 10 => semVal ((c : Thread nD τ), .dma (outSem k)) 0
/-- The duties device `c` pays and its places: at the barriers, -/
def barGhost (c : Dev nD) : sProp 𝕄 :=
  iprop(dutyTok ER (barCell (py c)) 0 false ∗ dutyTok ER (barCell (px c)) 0 true ∗ atPos ER (barCell c) 0 ∅ 0)
/-- at the two ends of an exchange. -/
def exGhost (a : Fin 2) (k : Fin 6) (c : Dev nD) : sProp 𝕄 :=
  iprop(dutyTok ER (sndCell a k c) 0 false ∗ dutyTok ER (rcvCell a k (mate a c)) 0 false ∗ atPos ER (sndCell a k c) 0 ∅ 0 ∗ atPos ER (rcvCell a k c) 0 ∅ 0)
def ghost (c : Dev nD) : sProp 𝕄 := iprop(barGhost c ∗ bigSep Finset.univ fun p : Fin 2 × Fin 6 => exGhost p.1 p.2 c)
/-- The credits device `c` is owed. -/
def credits (c : Dev nD) : sProp 𝕄 :=
  iprop(cred (tallyAt (barCell c) () 2) ∗ bigSep Finset.univ fun p : Fin 2 × Fin 6 => cred (tallyAt (rcvCell p.1 p.2 c) () (exN p.1)))
/-- What the global step hands a device: the shared semaphores' invariants under some names, its duties and places, and
    its streams' semaphores. -/
def G' (c : Dev nD) : sProp 𝕄 :=
  iprop((∃ κ : Dev nD × CK → ℕ, (bigSep Finset.univ fun x : Dev nD × CK => cellInv ER (sched m) (κ x) (cell x.1 x.2)) ∗ bigSep Finset.univ fun x : Dev nD × CK => reached ER (cell x.1 x.2) 0)
    ∗ ghost c ∗ inZero c ∗ outZero c)
def start (c : Dev nD) : sProp 𝕄 := iprop(G' m c ∗ levAts L lv ∗ credits c ∗ inS.arrs m c ∗ outS.arrs m c)
def Φ₀ (c : Dev nD) : sProp 𝕄 := iprop(start m c ∗ slots c)
/-- After: every semaphore at zero, every slot back. -/
def Φ₁ (c : Dev nD) : sProp 𝕄 :=
  iprop((bigSep Finset.univ fun p : Fin 2 × Fin 6 => iprop(semVal (sndCell p.1 p.2 c) 0 ∗ semVal (rcvCell p.1 p.2 c) 0)) ∗ semVal (barCell c) 0
    ∗ inZero c ∗ outZero c ∗ slots c)

theorem rdy_intro (a : Fin 2) (k : Fin 6) (c : Dev nD) :
    iprop(exGhost (F := F) a k c ∗ cred (tallyAt (rcvCell a k c) () (exN a)) ∗ exAny (F := F) false a k c) ⊢ rdy (F := F) a k c := by
  unfold exGhost rdy
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

theorem closed_parts (a : Fin 2) (k : Fin 6) (c : Dev nD) :
    closed (F := F) a k c ⊢ iprop((semVal (sndCell a k c) 0 ∗ semVal (rcvCell a k c) 0) ∗ exAny (F := F) false a k c ∗ exAny (F := F) true a k c) := by
  unfold closed
  iintro ⟨H1, H2, H3, H4⟩
  isplitl [H1 H2]
  · isplitl [H1]; · iexact H1
    iexact H2
  isplitl [H3]; · iexact H3
  iexact H4

theorem start_body (c : Dev nD) :
    iprop(Φ₀ m c ∗ ∃ W, owes (c : Thread nD τ) (O₀ c) W) ⊢ iprop(∃ κ : Dev nD × CK → ℕ, ctx m κ ∗ bodyStart m c) := by
  unfold Φ₀ start G' ghost credits slots ctx bodyStart hsPre inIdle outIdle Stream.idle barGhost
  have hrdy : iprop((bigSep Finset.univ fun p : Fin 2 × Fin 6 => exGhost (F := F) p.1 p.2 c)
        ∗ (bigSep Finset.univ fun p : Fin 2 × Fin 6 => cred (tallyAt (rcvCell p.1 p.2 c) () (exN p.1)))
        ∗ bigSep Finset.univ fun p : Fin 2 × Fin 6 => exAny (F := F) false p.1 p.2 c)
      ⊢ bigSep Finset.univ fun p : Fin 2 × Fin 6 => rdy (F := F) p.1 p.2 c := by
    rw [← bigSep_sep', ← bigSep_sep']
    exact bigSep_mono fun p _ => rdy_intro p.1 p.2 c
  iintro ⟨⟨⟨⟨⟨%κ, HI, HR⟩, ⟨⟨Ht1, Ht2, Hat⟩, Hex⟩, Hzi, Hzo⟩, Hlev, ⟨Hcb, Hcr⟩, Ha1, Ha2⟩, Hs0, Hs1, Hsf, Hst⟩, HO⟩
  iexists κ
  isplitl [HI HR Hlev]
  · isplitl [Hlev]; · iexact Hlev
    isplitl [HI]; · iexact HI
    iexact HR
  isplitl [Hex Hcr Hsf]
  · iapply hrdy
    isplitl [Hex]; · iexact Hex
    isplitl [Hcr]; · iexact Hcr
    iexact Hsf
  isplitl [Ht1 Ht2 Hat Hcb Hst]
  · isplitl [Ht1]; · iexact Ht1
    isplitl [Ht2]; · iexact Ht2
    isplitl [Hat]; · iexact Hat
    isplitl [Hcb]; · iexact Hcb
    ihave Hst := (Entails.of_eq (bigSep_axes (fun a k => exAny (F := F) true a k c))) $$ Hst
    iexact Hst
  isplitl [Hzi Hs0 Ha1]
  · isplitr [Ha1]; swap; · iexact Ha1
    rw [bigSep_sep']
    isplitl [Hzi]; · unfold inZero; iexact Hzi
    iexact Hs0
  isplitr [HO]; swap; · iexact HO
  isplitr [Ha2]; swap; · iexact Ha2
  rw [bigSep_sep']
  isplitl [Hzo]; · unfold outZero; iexact Hzo
  iexact Hs1

theorem body_exit (c : Dev nD) : bodyEnd c ⊢ iprop(Φ₁ c ∗ ∃ W, owes (c : Thread nD τ) 0 W : sProp 𝕄) := by
  unfold bodyEnd Φ₁ slots inIdle outIdle Stream.idle
  have hcl : (bigSep Finset.univ fun p : Fin 2 × Fin 6 => closed (F := F) p.1 p.2 c)
      ⊢ iprop((bigSep Finset.univ fun p : Fin 2 × Fin 6 => iprop(semVal (sndCell p.1 p.2 c) 0 ∗ semVal (rcvCell p.1 p.2 c) 0))
        ∗ (bigSep Finset.univ fun p : Fin 2 × Fin 6 => exAny (F := F) false p.1 p.2 c)
        ∗ bigSep Finset.univ fun p : Fin 2 × Fin 6 => exAny (F := F) true p.1 p.2 c) := by
    rw [← bigSep_sep' (M := 𝕄) Finset.univ (fun p : Fin 2 × Fin 6 => exAny (F := F) false p.1 p.2 c), ← bigSep_sep']
    exact bigSep_mono fun p _ => closed_parts p.1 p.2 c
  rw [bigSep_sep', bigSep_sep']
  iintro ⟨Hc, Hb, ⟨Hzi, Hs0⟩, ⟨Hzo, Hs1⟩, HO⟩
  ihave Hc := hcl $$ Hc
  icases Hc with ⟨Hz, Hsf, Hst⟩
  isplitr [HO]; swap; · iexact HO
  isplitl [Hz]; · iexact Hz
  isplitl [Hb]; · iexact Hb
  isplitl [Hzi]; · unfold inZero; iexact Hzi
  isplitl [Hzo]; · unfold outZero; iexact Hzo
  isplitl [Hs0]; · iexact Hs0
  isplitl [Hs1]; · iexact Hs1
  isplitl [Hsf]; · iexact Hsf
  iexact Hst

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBlk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem win_two (Φ : Fin cfg0.W → sProp 𝕄) : bigSep Finset.univ Φ = iprop(Φ (0 : Fin 2) ∗ Φ (1 : Fin 2)) := bigSep_W0 Φ

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ stg c b f) := by
  unfold owns; simp only [Memref.view_whole, View.read_whole, View.set_whole]

/-- The input window holds the device's block at the body. -/
theorem before_x (c : Dev nD) (d) : (dats m ρ 0 c).before (0 : Fin 2) t₀ d = xBlk m c := by
  unfold Dat.before; rw [if_pos (fetch0_0 t₀)]; rfl

set_option maxRecDepth 4000 in
def pre (c : Dev nD) : sProp 𝕄 :=
  iprop(Φ₀ m c ∗ (dats m ρ 0 c).owesAt () t₀.castSucc
    ∗ (∃ d, ∃ f, ⌜f = (dats m ρ 0 c).before (0 : Fin 2) t₀ d⌝ ∗ stg c cc0_stg0_0 f)
    ∗ (∃ d, ∃ f, ⌜f = (dats m ρ 0 c).before (1 : Fin 2) t₀ d⌝ ∗ stg c cc0_stg1_0 f))
def post (c : Dev nD) : sProp 𝕄 :=
  iprop(Φ₁ c ∗ (dats m ρ 0 c).owesAt () t₀.succ ∗ (∃ f, ⌜f = xBlk m c⌝ ∗ stg c cc0_stg0_0 f) ∗ (∃ f, ⌜f = outAt m c⌝ ∗ stg c cc0_stg1_0 f))

set_option maxRecDepth 4000 in
theorem sound_body (c : Dev nD) :
    pre m ρ c ⊢ wp frame (wpE (defs₀ (F := F)) 𝒱₀ (c : Thread nD τ) none) Set.univ (bodyAt0 t₀) fun _ => post m ρ c := by
  rw [show bodyAt0 (F := F) t₀ = body xM oM from body_eq t₀]
  unfold pre post Dat.owesAt Pipeline.owesWithin body
  rw [show (dats m ρ 0 c).owed t₀.castSucc = O₀ c from rfl, show (dats m ρ 0 c).owed t₀.succ = 0 from rfl]
  simp only [Prog.lift, Prog.bind_op, Prog.bind_ret]
  iintro ⟨HΦ, ⟨%W, -, HO⟩, ⟨%d, %f, %hf, Hx⟩, ⟨%d', %f', -, Ho⟩⟩
  rw [before_x] at hf
  subst hf
  ihave HS := (start_body m c) $$ [HΦ HO]
  · isplitl [HΦ]; · iexact HΦ
    iexists W; iexact HO
  icases HS with ⟨%κ, HC, HS⟩
  rw [wp_deviceId]
  iapply (run_body (m := m) (κ := κ) c f' fun _ => _)
  isplitl [HC]; · iexact HC
  isplitl [HS Hx Ho]
  · isplitl [HS]; · iexact HS
    isplitl [Hx]; · iexact Hx
    iexact Ho
  iintro ⟨HE, Hx, Ho⟩
  ihave HE := (body_exit (F := F) c) $$ HE
  icases HE with ⟨HΦ, ⟨%W', HO⟩⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-- What the pipeline runs at its one point is the kernel's body. -/
theorem body_at : defs₀ (F := F) Proc.tc 0 (t₀, cfg0.slots t₀) = bodyAt0 t₀ := rfl

set_option maxRecDepth 8000 in
/-- The pipeline's obligation on the body. -/
theorem body_obligation (c : Dev nD) : BodyObligation (dats (F := F) m ρ 0 c) (defs₀ (F := F)) 𝒱₀ () Set.univ := fun t => by
  rw [fin_N t]
  rw [win_two, win_two]
  simp only [owns_stg]
  rw [body_at]
  have h := sound_body m ρ c
  unfold pre post at h
  have e1 : (dats m ρ 0 c).Φ t₀.castSucc = Φ₀ m c := rfl
  have e2 : (dats m ρ 0 c).Φ t₀.succ = Φ₁ c := rfl
  have e3 : (dats m ρ 0 c).after 0 t₀ = xBlk m c := rfl
  have e4 : (dats m ρ 0 c).after 1 t₀ = outAt m c := rfl
  rw [e1, e2, e3, e4]
  generalize bodyAt0 (F := F) t₀ = B at h ⊢
  refine (Entails.of_eq ?_).trans (h.trans (Entails.of_eq ?_))
  · rfl
  · rfl

end Cert.KernelIdeal.Body

end
-- ==== Proof.KernelIdeal.Run.lean ====
/-
  The launch of all devices, and the run of the whole program: what every final state holds.
-/
module

public import proofs.«01_k».proof.Proof.KernelIdeal.Launch
public import Idealize.ShloMosaic.Lib.Pipeline.CollectiveSegs

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores, and families over them -/

/-- The kernel's own semaphores: the two streams', and the exchanges'. -/
def osem : Fin 6 ⊕ Fin 10 ⊕ (Bool × Fin 2 × Fin 6) → SemLoc sig
  | .inl k => .dma (inSem k)
  | .inr (.inl k) => .dma (outSem k)
  | .inr (.inr x) => csem (some x)

set_option maxRecDepth 8000 in
theorem ownSemFacts : Pipeline.OwnSemFacts cfg0.spec osem := by decide +kernel

omit [FloatOps F] in
/-- A family over an option: at none, and at each some. -/
theorem bigSep_option {A : Type} [Fintype A] [DecidableEq A] (Φ : Option A → sProp 𝕄) :
    bigSep Finset.univ Φ = iprop(Φ none ∗ bigSep Finset.univ fun a => Φ (some a)) := by
  rw [bigSep_univ_at Φ none, show (Finset.univ : Finset (Option A)).erase none = Finset.univ.map Function.Embedding.some from by
    ext x; cases x <;> simp, bigSep_map]
  rfl

omit [FloatOps F] in
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

omit [FloatOps F] in
/-- A family over the two ends of every exchange. -/
theorem bigSep_ends (Φ : Bool × Fin 2 × Fin 6 → sProp 𝕄) :
    bigSep Finset.univ Φ = iprop((bigSep Finset.univ fun p : Fin 2 × Fin 6 => Φ (false, p.1, p.2)) ∗ bigSep Finset.univ fun p : Fin 2 × Fin 6 => Φ (true, p.1, p.2)) := by
  rw [bigSep_univ_prod, bigSep_univ_eq_bigSepL [false, true] (by decide) (by decide), bigSepL_cons_cons, bigSepL_singleton]
  rfl

omit [FloatOps F] in
/-- A family over a device's shared semaphores. -/
theorem bigSep_shared (Φ : CK → sProp 𝕄) :
    bigSep Finset.univ Φ = iprop(Φ none ∗ (bigSep Finset.univ fun p : Fin 2 × Fin 6 => Φ (some (false, p.1, p.2)))
      ∗ bigSep Finset.univ fun p : Fin 2 × Fin 6 => Φ (some (true, p.1, p.2))) := by
  rw [bigSep_option, bigSep_ends]

omit [FloatOps F] in
theorem ownSems0_eq (c : Dev nD) : (Pipeline.ownSems0 (Ix := Unit) (Name := ℕ) (U := UU) (Lvl := ℕ) (Val := Elt F) (τ := τ) osem c : sProp 𝕄)
    = iprop(inZero c ∗ outZero c ∗ (bigSep Finset.univ fun p : Fin 2 × Fin 6 => semVal (sndCell p.1 p.2 c) 0)
      ∗ bigSep Finset.univ fun p : Fin 2 × Fin 6 => semVal (rcvCell p.1 p.2 c) 0) := by
  unfold Pipeline.ownSems0
  rw [bigSep_sum, bigSep_sum, bigSep_ends]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem share_eq (c : Dev nD) (w : Fin cfg0.W) : (dats m ρ 0 c).share w = fullShare := by unfold Dat.share; split <;> rfl

/-! ## The shared semaphores of all devices, and the duties minted on them -/

def theCells : Finset (GSem nD τ sig) :=
  Finset.univ.map ⟨fun x : Dev nD × CK => cell x.1 x.2, fun x y h => Prod.ext (cell_inj h).1 (cell_inj h).2⟩

/-- A device's duties: the two of its barrier, one at each end of every exchange. -/
abbrev TK : Type := Bool ⊕ (Bool × Fin 2 × Fin 6)
def tokOf (c : Dev nD) : TK → GSem nD τ sig × ℕ × Bool
  | .inl d => (barCell c, 0, d)
  | .inr x => (cell c (some x), 0, false)
theorem tokOf_inj {c c' : Dev nD} {x y : TK} (h : tokOf c x = tokOf c' y) : c = c' ∧ x = y := by
  rcases x with d | x <;> rcases y with d' | y
  · have h1 := cell_inj (congrArg Prod.fst h)
    exact ⟨h1.1, congrArg Sum.inl (congrArg (fun z : GSem nD τ sig × ℕ × Bool => z.2.2) h)⟩
  · exact absurd (cell_inj (congrArg Prod.fst h)).2 (fun h => by cases h)
  · exact absurd (cell_inj (congrArg Prod.fst h)).2 (fun h => by cases h)
  · have h1 := cell_inj (congrArg Prod.fst h)
    exact ⟨h1.1, congrArg Sum.inr (Option.some.inj h1.2)⟩
def theToks : Finset (GSem nD τ sig × ℕ × Bool) :=
  Finset.univ.map ⟨fun x : Dev nD × TK => tokOf x.1 x.2, fun x y h => Prod.ext (tokOf_inj h).1 (tokOf_inj h).2⟩

def u₀ : UU :=
  (initOf (Pipeline.cells cfgs cellOf_inj) (Pipeline.launchToks cfgs cellOf_inj), (initOf theCells theToks, (1 : Counters)))

/-- The duties of device `c`'s own semaphores; -/
def toks (c : Dev nD) : sProp 𝕄 :=
  iprop((dutyTok ER (barCell c) 0 false ∗ dutyTok ER (barCell c) 0 true)
    ∗ (bigSep Finset.univ fun p : Fin 2 × Fin 6 => dutyTok ER (sndCell p.1 p.2 c) 0 false) ∗ bigSep Finset.univ fun p : Fin 2 × Fin 6 => dutyTok ER (rcvCell p.1 p.2 c) 0 false)
/-- those that device `c` pays. -/
def payToks (c : Dev nD) : sProp 𝕄 :=
  iprop((dutyTok ER (barCell (py c)) 0 false ∗ dutyTok ER (barCell (px c)) 0 true)
    ∗ (bigSep Finset.univ fun p : Fin 2 × Fin 6 => dutyTok ER (sndCell p.1 p.2 c) 0 false)
    ∗ bigSep Finset.univ fun p : Fin 2 × Fin 6 => dutyTok ER (rcvCell p.1 p.2 (mate p.1 c)) 0 false)

omit [FloatOps F] in
theorem toks_eq (c : Dev nD) : (bigSep Finset.univ fun x : TK => dutyTok ER (tokOf c x).1 (tokOf c x).2.1 (tokOf c x).2.2) = (toks c : sProp 𝕄) := by
  unfold toks
  rw [bigSep_sum, bigSep_ends, bigSep_univ_eq_bigSepL [false, true] (by decide) (by decide), bigSepL_cons_cons, bigSepL_singleton]
  rfl

omit [FloatOps F] in
/-- Each device's duties dealt to the partners that pay them. -/
theorem toks_around : (bigSep Finset.univ fun c : Dev nD => (toks c : sProp 𝕄)) ⊢ bigSep Finset.univ fun c : Dev nD => payToks c := by
  have hx : (bigSep Finset.univ fun c : Dev nD => bigSep Finset.univ fun p : Fin 2 × Fin 6 => (dutyTok ER (rcvCell p.1 p.2 c) 0 false : sProp 𝕄))
      = bigSep Finset.univ fun c : Dev nD => bigSep Finset.univ fun p : Fin 2 × Fin 6 => dutyTok ER (rcvCell p.1 p.2 (mate p.1 c)) 0 false := by
    rw [bigSep_univ_comm, bigSep_univ_comm (fun (c : Dev nD) (p : Fin 2 × Fin 6) => (dutyTok ER (rcvCell p.1 p.2 (mate p.1 c)) 0 false : sProp 𝕄))]
    exact bigSep_congr fun p _ => bigSep_univ_equiv (mates p.1) fun c : Dev nD => (dutyTok ER (rcvCell p.1 p.2 c) 0 false : sProp 𝕄)
  unfold toks payToks
  rw [bigSep_sep', bigSep_sep', bigSep_sep', bigSep_sep', bigSep_sep', bigSep_sep', hx,
    bigSep_univ_equiv (mates 0) (fun c : Dev nD => (dutyTok ER (barCell c) 0 false : sProp 𝕄)),
    bigSep_univ_equiv (mates 1) (fun c : Dev nD => (dutyTok ER (barCell c) 0 true : sProp 𝕄))]
  iintro H
  iexact H

/-- What the launch element deals device `c`. -/
def G (c : Dev nD) : sProp 𝕄 :=
  iprop((bigSep Finset.univ fun k : CK => roundState ER (sched m) (cell c k) 0) ∗ (bigSep Finset.univ fun k : CK => reached ER (cell c k) 0)
    ∗ (bigSep Finset.univ fun k : CK => atPos ER (cell c k) 0 ∅ 0) ∗ toks c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => toks_eq c
  iintro HX
  imod (Rounds.fund ER (sched m) theCells theToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  rw [bigSep_sep', bigSep_sep', bigSep_sep']
  isplitl [Hst]; · iexact Hst
  isplitl [Hr]; · iexact Hr
  isplitl [Hat]; · iexact Hat
  iexact Htok

/-- A device's semaphores at launch: the shared ones, and the streams'. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (cell c k) 0) ∗ inZero c ∗ outZero c : sProp 𝕄) := by
  rw [ownSems0_eq, unscopedSems0_eq, bigSep_shared]
  iintro ⟨⟨Hi, Ho, Hs, Hr⟩, Hb⟩
  isplitr [Hi Ho]
  · isplitl [Hb]; · iexact Hb
    isplitl [Hs]; · iexact Hs
    iexact Hr
  isplitl [Hi]; · iexact Hi
  iexact Ho

/-- What is left of a device's launch once its invariants are there. -/
def rest₀ (c : Dev nD) : sProp 𝕄 :=
  iprop((bigSep Finset.univ fun k : CK => atPos ER (cell c k) 0 ∅ 0) ∗ inZero c ∗ outZero c)

theorem inv_alloc_all (c : Dev nD) :
    iprop((bigSep Finset.univ fun k : CK => semVal (cell c k) 0) ∗ bigSep Finset.univ fun k : CK => roundState ER (sched m) (cell c k) 0)
      ⊢ (|={Set.univ}=> bigSep Finset.univ fun k => iprop(∃ κ : ℕ, cellInv ER (sched m) κ (cell c k)) : sProp 𝕄) := by
  rw [← bigSep_sep']
  exact (bigSep_mono fun k _ => (Rounds.body_intro ER (sched m) (cell c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell c k)))
          ∗ (bigSep Finset.univ fun k => reached ER (cell c k) 0) ∗ rest₀ c ∗ toks c) := by
  unfold G rest₀
  iintro ⟨Hos, Hus, Hst, Hr, Hat, Htok⟩
  ihave Hv := (sems0_split (F := F) c) $$ [Hos Hus]
  · isplitl [Hos]; · iexact Hos
    iexact Hus
  icases Hv with ⟨Hv, Hi, Ho⟩
  imod (inv_alloc_all m c) $$ [Hv Hst] with Hinv
  · isplitl [Hv]; · iexact Hv
    iexact Hst
  imodintro
  isplitl [Hinv]; · iexact Hinv
  isplitl [Hr]; · iexact Hr
  isplitr [Htok]; swap; · iexact Htok
  isplitl [Hat]; · iexact Hat
  isplitl [Hi]; · iexact Hi
  iexact Ho

/-- All invariants under the names `κ`, and every semaphore's first round reached. -/
def records (κ : Dev nD × CK → ℕ) : sProp 𝕄 :=
  iprop((bigSep Finset.univ fun x : Dev nD × CK => cellInv ER (sched m) (κ x) (cell x.1 x.2)) ∗ bigSep Finset.univ fun x : Dev nD × CK => reached ER (cell x.1 x.2) 0)
instance records_persistent (κ : Dev nD × CK → ℕ) : BI.Persistent (records m κ : sProp 𝕄) := by unfold records; infer_instance

theorem deal (κ : Dev nD × CK → ℕ) (c : Dev nD) : iprop(records m κ ∗ rest₀ c ∗ payToks c) ⊢ G' m c := by
  have hex : iprop((bigSep Finset.univ fun p : Fin 2 × Fin 6 => dutyTok ER (sndCell p.1 p.2 c) 0 false)
        ∗ (bigSep Finset.univ fun p : Fin 2 × Fin 6 => dutyTok ER (rcvCell p.1 p.2 (mate p.1 c)) 0 false)
        ∗ (bigSep Finset.univ fun p : Fin 2 × Fin 6 => atPos ER (sndCell p.1 p.2 c) 0 ∅ 0)
        ∗ bigSep Finset.univ fun p : Fin 2 × Fin 6 => atPos ER (rcvCell p.1 p.2 c) 0 ∅ 0)
      ⊢ (bigSep Finset.univ fun p : Fin 2 × Fin 6 => exGhost p.1 p.2 c : sProp 𝕄) := by
    rw [← bigSep_sep', ← bigSep_sep', ← bigSep_sep']
    exact bigSep_mono fun p _ => show _ ⊢ (exGhost p.1 p.2 c : sProp 𝕄) from Entails.of_eq rfl
  unfold records rest₀ payToks G' ghost barGhost
  rw [bigSep_shared]
  iintro ⟨⟨HI, HR⟩, ⟨⟨Hb, Hs, Hr⟩, Hi, Ho⟩, ⟨Ht1, Ht2⟩, Hts, Htr⟩
  isplitl [HI HR]
  · iexists κ
    isplitl [HI]; · iexact HI
    iexact HR
  isplitr [Hi Ho]; swap
  · isplitl [Hi]; · iexact Hi
    iexact Ho
  isplitl [Ht1 Ht2 Hb]
  · isplitl [Ht1]; · iexact Ht1
    isplitl [Ht2]; · iexact Ht2
    iexact Hb
  iapply hex
  isplitl [Hts]; · iexact Hts
  isplitl [Htr]; · iexact Htr
  isplitl [Hs]; · iexact Hs
  iexact Hr

omit [FloatOps F] in
/-- A persistent fact goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (cell c k)))
          ∗ (bigSep Finset.univ fun k => reached ER (cell c k) 0) ∗ rest₀ c ∗ toks c) : sProp 𝕄)
      ⊢ bigSep Finset.univ (G' m) := by
  rw [bigSep_sep', bigSep_sep', bigSep_sep', ← bigSep_univ_prod (fun x : Dev nD × CK => iprop(∃ κ : ℕ, cellInv ER (sched m) κ (cell x.1 x.2))),
    ← bigSep_univ_prod (fun x : Dev nD × CK => (reached ER (cell x.1 x.2) 0 : sProp 𝕄))]
  iintro ⟨HI, HR, Hrest, Htok⟩
  ihave HK := (BI.bigSep_exists_pi Finset.univ (fun (x : Dev nD × CK) (κ : ℕ) => (cellInv ER (sched m) κ (cell x.1 x.2) : sProp 𝕄))) $$ HI
  icases HK with ⟨%κ, HI⟩
  ihave Htok := (toks_around (F := F)) $$ Htok
  iapply (bigSep_share (R := records m κ) fun c _ => deal m κ c)
  isplitl [HI HR]
  · unfold records
    isplitl [HI]; · iexact HI
    iexact HR
  rw [bigSep_sep']
  isplitl [Hrest]; · iexact Hrest
  iexact Htok

/-- The global step: every device's semaphores become the shared invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem due_at (d : Dev nD) (i : ℕ) (c : Dev nD) (ck : CK) :
    due d i (cell c ck) () = if c = mate (ax i) d ∧ ck = some (true, ax i, sl i) then exN (ax i) else 0 := by
  unfold due
  rw [tallyAt_apply]
  by_cases h : c = mate (ax i) d ∧ ck = some (true, ax i, sl i)
  · rw [if_pos h, if_pos ⟨by rw [h.1, h.2], rfl⟩]
  · rw [if_neg h, if_neg fun h' => h (cell_inj h'.1)]

theorem owed_at (d c : Dev nD) (ck : CK) :
    owed d 0 (cell c ck) () = ∑ i ∈ Finset.Ico 0 12, if c = mate (ax i) d ∧ ck = some (true, ax i, sl i) then exN (ax i) else 0 := by
  unfold owed
  rw [Finset.sum_apply, Finsupp.finset_sum_apply]
  exact Finset.sum_congr rfl fun i _ => due_at d i c ck

theorem mate_eq_iff (a : Fin 2) (c d : Dev nD) : c = mate a d ↔ d = mate a c :=
  ⟨fun h => by rw [h, mate_mate], fun h => by rw [h, mate_mate]⟩

theorem bar_at (d d' c : Dev nD) : (tallyAt (barCell d) () 1 : CellTallies nD τ sig Unit) (barCell c) () = if c = d then 1 else 0 := by
  rw [tallyAt_apply]
  by_cases h : c = d
  · rw [if_pos h, if_pos ⟨by rw [h], rfl⟩]
  · rw [if_neg h, if_neg fun h' => h (cell_inj h'.1).1]

/-- What device `d` owes device `c`'s barrier: a unit if `d` is one of its partners. -/
theorem owed_bar (d c : Dev nD) : O₀ d (barCell c) () = (if d = px c then 1 else 0) + if d = py c then 1 else 0 := by
  unfold O₀ O₁
  rw [Pi.add_apply, Finsupp.add_apply, Pi.add_apply, Finsupp.add_apply, owed_at, bar_at (px d) d, bar_at (py d) d,
    Finset.sum_eq_zero fun i _ => if_neg fun h => (by cases h.2), Nat.zero_add]
  have h1 : (c = px d) = (d = px c) := propext (mate_eq_iff 1 c d)
  have h2 : (c = py d) = (d = py c) := propext (mate_eq_iff 0 c d)
  simp only [h1, h2]

/-- What device `d` owes the receiving end of device `c`'s exchange: the whole of it if `d` is the partner. -/
theorem owed_rcv (a : Fin 2) (k : Fin 6) (d c : Dev nD) : O₀ d (rcvCell a k c) () = if d = mate a c then exN a else 0 := by
  unfold O₀ O₁
  rw [Pi.add_apply, Finsupp.add_apply, Pi.add_apply, Finsupp.add_apply, owed_at,
    tallyAt_ne_cell (fun h => by cases (cell_inj h).2), tallyAt_ne_cell (fun h => by cases (cell_inj h).2), Finsupp.zero_apply, Nat.add_zero, Nat.add_zero,
    Finset.sum_eq_single (ord a k)]
  · rw [ax_ord, sl_ord]
    by_cases h : d = mate a c
    · rw [if_pos h, if_pos ⟨(mate_eq_iff a c d).mpr h, rfl⟩]
    · rw [if_neg h, if_neg fun h' => h ((mate_eq_iff a c d).mp h'.1)]
  · intro i hi hne
    refine if_neg fun h => hne ?_
    have h2 := Option.some.inj h.2
    have ha : a = ax i := congrArg (fun z : Bool × Fin 2 × Fin 6 => z.2.1) h2
    have hk : k = sl i := congrArg (fun z : Bool × Fin 2 × Fin 6 => z.2.2) h2
    rw [ha, hk]
    exact (ord_at ⟨i, (Finset.mem_Ico.mp hi).2⟩).symm
  · intro h
    exact absurd (Finset.mem_Ico.mpr ⟨Nat.zero_le _, ord_lt a k⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (px c) fun _ => 1, Finset.sum_ite_eq' Finset.univ (py c) fun _ => 1, if_pos (Finset.mem_univ _), if_pos (Finset.mem_univ _)]

theorem launch_rcv (a : Fin 2) (k : Fin 6) (c : Dev nD) :
    tallyOn (rcvCell a k c) (launchCredit (Pipeline.owing O₀) 0 (rcvCell a k c)) = (tallyAt (rcvCell a k c) () (exN a) : CellTallies nD τ sig Unit) := by
  unfold tallyAt; refine congrArg _ (Finsupp.ext fun u => ?_); cases u
  rw [Pipeline.launchCredit_owing, Finsupp.single_eq_same, Finset.sum_congr rfl fun d _ => owed_rcv a k d c,
    Finset.sum_ite_eq' Finset.univ (mate a c) fun _ => exN a, if_pos (Finset.mem_univ _)]

/-- The barrier and the receiving ends among a device's semaphores. -/
def credSem : Option (Fin 2 × Fin 6) ↪ SemLoc sig :=
  ⟨fun o => csem (o.map fun p => (true, p)), fun x y h => by
    have h := csem_injective h
    rcases x with _ | x <;> rcases y with _ | y
    · rfl
    · cases h
    · cases h
    · exact congrArg some (congrArg Prod.snd (Option.some.inj h))⟩

theorem creds (c : Dev nD) : (Pipeline.launchCred O₀ c : sProp 𝕄) ⊢ credits c := by
  have e : (bigSep (Finset.univ.map credSem) fun sm => cred (tallyOn ((c : Thread nD τ), sm) (launchCredit (Pipeline.owing O₀) 0 ((c : Thread nD τ), sm))) : sProp 𝕄)
      = credits c := by
    unfold credits
    rw [bigSep_map, bigSep_option]
    exact congrArg₂ BIBase.sep (congrArg _ (launch_bar c)) (bigSep_congr fun p _ => congrArg _ (launch_rcv p.1 p.2 c))
  unfold Pipeline.launchCred
  rw [← e]
  exact bigSep_subset (Finset.subset_univ _)

/-! ## The weights -/

/-- The weights' arrays at a share. -/
def weights (q : PosShare TreeShare) (c : Dev nD) : sProp 𝕄 :=
  iprop((((c : Thread nD τ).loc main_arg1) ↦{q} m ((c : Thread nD τ).loc main_arg1)) ∗ (((c : Thread nD τ).loc main_arg2) ↦{q} m ((c : Thread nD τ).loc main_arg2))
    ∗ (((c : Thread nD τ).loc main_arg3) ↦{q} m ((c : Thread nD τ).loc main_arg3)) ∗ (((c : Thread nD τ).loc main_arg4) ↦{q} m ((c : Thread nD τ).loc main_arg4))
    ∗ (((c : Thread nD τ).loc main_arg5) ↦{q} m ((c : Thread nD τ).loc main_arg5)) ∗ (((c : Thread nD τ).loc main_arg6) ↦{q} m ((c : Thread nD τ).loc main_arg6)))

omit [FloatOps F] in
theorem half (ℓ : Loc nD τ sig) (f : Buf (Elt F) ℓ) : (ℓ ↦{fullShare} f : sProp 𝕄) ⊢ iprop((ℓ ↦{fullShare.left} f) ∗ ℓ ↦{fullShare.right} f) :=
  (pointsTo_share (PosShare.mem_left_op_right fullShare)).1

theorem weights_half (c : Dev nD) : weights m fullShare c ⊢ iprop(weights m fullShare.left c ∗ weights m fullShare.right c : sProp 𝕄) := by
  unfold weights
  iintro ⟨H1, H2, H3, H4, H5, H6⟩
  ihave H1 := (half (F := F) _ _) $$ H1
  ihave H2 := (half (F := F) _ _) $$ H2
  ihave H3 := (half (F := F) _ _) $$ H3
  ihave H4 := (half (F := F) _ _) $$ H4
  ihave H5 := (half (F := F) _ _) $$ H5
  ihave H6 := (half (F := F) _ _) $$ H6
  icases H1 with ⟨L1, R1⟩
  icases H2 with ⟨L2, R2⟩
  icases H3 with ⟨L3, R3⟩
  icases H4 with ⟨L4, R4⟩
  icases H5 with ⟨L5, R5⟩
  icases H6 with ⟨L6, R6⟩
  isplitl [L1 L2 L3 L4 L5 L6]
  · isplitl [L1]; · iexact L1
    isplitl [L2]; · iexact L2
    isplitl [L3]; · iexact L3
    isplitl [L4]; · iexact L4
    isplitl [L5]; · iexact L5
    iexact L6
  isplitl [R1]; · iexact R1
  isplitl [R2]; · iexact R2
  isplitl [R3]; · iexact R3
  isplitl [R4]; · iexact R4
  isplitl [R5]; · iexact R5
  iexact R6

omit [FloatOps F] in
theorem range3 (Φ : ℕ → sProp 𝕄) : bigSep (Finset.range 3) Φ = iprop(Φ 0 ∗ Φ 1 ∗ Φ 2) := by
  rw [bigSep_eq_bigSepL_of_eq [0, 1, 2] (by decide) (by decide)]; rfl

theorem weights_arrs (q : PosShare TreeShare) (c : Dev nD) : weights m q c ⊢ iprop(inS.arrs m c ∗ outS.arrs m c : sProp 𝕄) := by
  unfold weights Stream.arrs
  rw [range3, range3]
  iintro ⟨H1, H2, H3, H4, H5, H6⟩
  isplitl [H1 H3 H5]
  · isplitl [H1]; · iexists q; iexact H1
    isplitl [H3]; · iexists q; iexact H3
    iexists q; iexact H5
  isplitl [H2]; · iexists q; iexact H2
  isplitl [H4]; · iexists q; iexact H4
  iexists q; iexact H6

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ weights m fullShare.right c) := by
  rw [Pipeline.unscopedRestP_none, show (Pipeline.unscopedRest cfg0.spec c (fun b => m ((c : Thread nD τ).loc b)) : sProp 𝕄) = weights m fullShare c from
    unscopedRest0_eq c fun b => m ((c : Thread nD τ).loc b)]
  iintro ⟨Hw, Hlev, Hcr, -, HG⟩
  ihave Hc := (creds (F := F) c) $$ Hcr
  ihave Hw := (weights_half m c) $$ Hw
  icases Hw with ⟨Hl, Hr⟩
  ihave Hl := (weights_arrs m fullShare.left c) $$ Hl
  icases Hl with ⟨Ha1, Ha2⟩
  imodintro
  unfold start
  isplitr [Hr]; swap; · iexact Hr
  isplitl [HG]; · iexact HG
  isplitl [Hlev]; · iexact Hlev
  isplitl [Hc]; · iexact Hc
  isplitl [Ha1]; · iexact Ha1
  iexact Ha2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (slots_of (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  rw [bigSep_sep']
  iintro ⟨⟨Hs, Hr⟩, Hb, Hi, Ho, Hsl⟩
  isplitl [Hb]; · iexact Hb
  isplitr [Hsl]; swap
  · iapply (of_slots_all m c); iexact Hsl
  isplitl [Hi]; · iexact Hi
  isplitl [Ho]; · iexact Ho
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait₀ c _ (by fin_cases w <;> fin_cases s <;> decide)
    · show _ ⊢ (MayWait (c : Thread nD τ) _ () (0 : CellTallies nD τ sig Unit) : sProp 𝕄)
      rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- What every final state holds on device `c` beside the windows' arrays: the weights as they were. -/
def WQ (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)
    ∧ s.mem ((c : Thread nD τ).loc main_arg5) = m ((c : Thread nD τ).loc main_arg5) ∧ s.mem ((c : Thread nD τ).loc main_arg6) = m ((c : Thread nD τ).loc main_arg6)

theorem weights_read (q : PosShare TreeShare) (c : Dev nD) (s' : Phys nD τ sig (Elt F)) :
    iprop(weights m q c ∗ SI s') ⊢ iprop(⌜WQ m c s'.mem⌝ ∗ SI s' : sProp 𝕄) := by
  unfold weights
  iintro ⟨⟨H1, H2, H3, H4, H5, H6⟩, HSI⟩
  icombine HSI H1 gives %h1
  icombine HSI H2 gives %h2
  icombine HSI H3 gives %h3
  icombine HSI H4 gives %h4
  icombine HSI H5 gives %h5
  icombine HSI H6 gives %h6
  isplitr; swap; · iexact HSI
  ipureintro
  exact ⟨Buf.eq_of_forall_mem_univ h1, Buf.eq_of_forall_mem_univ h2, Buf.eq_of_forall_mem_univ h3, Buf.eq_of_forall_mem_univ h4,
    Buf.eq_of_forall_mem_univ h5, Buf.eq_of_forall_mem_univ h6⟩

def QC : PUnit × MemSt nD τ sig (Elt F) → Prop := fun r =>
  ∀ c : Dev nD, (∀ w : Fin cfg0.W, r.2.mem ((cfg0.win w).arr.view.loc (c : Thread nD τ)) = finalA m ρ c w) ∧ WQ m c r.2

set_option maxRecDepth 100000 in
/-- From any memory with zero counters every weakly fair execution of the program on the four devices terminates, and
    every final state has the windows' arrays at the computed contents, the weights unchanged and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := weights m fullShare.right)
    (hX := start_intro m ρ) (hin := phi0_intro m ρ) (hout := phi1_exit m ρ)
    (QY := fun c s => (∀ sm : SemLoc sig, sm.isScoped .tc = false → s.sem ((c.tc : Thread nD τ), sm) = 0) ∧ WQ m c s)
    (hY := fun c s' => by
      iintro ⟨Hu, Hw, HSI⟩
      ihave Hw := (weights_read m fullShare.right c s') $$ [Hw HSI]
      · isplitl [Hw]; · iexact Hw
        iexact HSI
      icases Hw with ⟨%hw, HSI⟩
      imod (Pipeline.unscopedSems0_read (X := unscopedSems0 c) (c := c) fupd_intro s') $$ [Hu HSI] with H
      · isplitl [Hu]; · iexact Hu
        iexact HSI
      icases H with ⟨%hs, HSI⟩
      imodintro
      isplitr; · ipureintro; exact ⟨hs, hw⟩
      iexact HSI)
    (hQ := fun _ h hs => ⟨fun c => ⟨fun w => (h c).1 w, (h c).2.2.2⟩, sem_eq_zero hs fun c => (h c).2.2.1⟩)

end Cert.KernelIdeal.Body

end
-- ==== Proof.KernelIdeal.End.lean ====
/-
  What every run of the program ends with: on each device its block of the result, the arguments as they were, and
  every semaphore counter at zero.
-/
module

public import proofs.«01_k».proof.Proof.KernelIdeal.Run

@[expose] public section

noncomputable section

namespace Cert.KernelIdeal.Body

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The input array is only read. -/
theorem final_in (c : Dev nD) : finalA m ρ c (0 : Fin 2) = m ((c : Thread nD τ).loc main_arg0) :=
  (dats (F := F) m ρ 0 c).arrAt_in (0 : Fin 2) rfl _

/-- The block the pipeline fetches is the device's whole input array; -/
theorem xBlk_eq (c : Dev nD) : xBlk m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- the result array ends as the block the body left. -/
theorem final_out (c : Dev nD) : finalA m ρ c (1 : Fin 2) = outAt m c := by
  have h : (win0_1.blk (0 : Fin 1)).view.read (Elt F) (finalA m ρ c (1 : Fin 2)) = outAt m c := by
    unfold finalA
    rw [show cfg0.N = (t₀ : Fin cfg0.N).val + 1 from cfg0_N, (dats m ρ 0 c).arrAt_succ (1 : Fin 2) t₀, if_pos (flush0_1 t₀)]
    exact View.read_write_univ _ _
  rw [← h]
  exact (Memref.read_access_unit_zero (Elt F) main_v1 (off := fun a => win0_1.index (0 : Fin 1) a * main_v1.ty.shape.size a)
    (funext fun a => by fin_cases a <;> decide) (fun a => by fin_cases a <;> decide) _).symm

/-- Every weakly fair execution terminates; on each device the result is `outAt`, the seven arguments are unchanged, and
    every semaphore counter is at zero. -/
theorem run_end : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ WQ m c r.2) ∧ r.2.sem = fun _ => 0) :=
  (θ_run defs _ _).mono (fun r h => ⟨fun c =>
    ⟨((h.1 c).1 (1 : Fin 2)).trans (final_out m ρ c), ((h.1 c).1 (0 : Fin 2)).trans (final_in m ρ c), (h.1 c).2⟩, h.2⟩) (run_main m ρ)

end Cert.KernelIdeal.Body

end
-- ==== Proof.Value.Matrix.lean ====
/-
  Matrices over the extended reals by natural coordinates, and the layer the reference computes on them.

  A whole array is read as a function of two naturals, zero outside the array, so that a block of it is the same function
  at shifted coordinates and a partial product is the same sum over a shorter range.
-/
module

public import Idealize.ShloMosaic.Lib.Layout
public import Idealize.ShloMosaic.Lib.ValueIdx
public import Idealize.ShloMosaic.Lib.ValueLayout
public import Idealize.ShloMosaic.Lib.MatmulPlain
public import Idealize.ShloMosaic.Lib.StackMember

@[expose] public section

noncomputable section

namespace Cert.Val

open Idealize.ShloMosaic Idealize.ShloMosaic.ValueIdx
open scoped BigOperators

/-- A matrix by natural coordinates. -/
abbrev Mat : Type := ℕ → ℕ → EReal

/-- An array read by natural coordinates, zero outside it. -/
def ext {a b : ℕ} (v : (⟨2, ![a, b]⟩ : Shape).Idx → EReal) : Mat :=
  fun r k => if h : r < a ∧ k < b then v (ix2 ⟨r, h.1⟩ ⟨k, h.2⟩) else 0

/-- Inside the array it is the array's element. -/
theorem ext_val {a b : ℕ} (v : (⟨2, ![a, b]⟩ : Shape).Idx → EReal) (r : Fin a) (k : Fin b) : ext v r.val k.val = v (ix2 r k) :=
  dif_pos ⟨r.isLt, k.isLt⟩

/-- A block of an array is the array at coordinates shifted by whole blocks. -/
theorem ext_block {a b A B : ℕ} {kN : Fin 2 → ℕ} (j : (i : Fin 2) → Fin (kN i)) (v : (⟨2, ![A, B]⟩ : Shape).Idx → EReal)
    (h : Layout.TilesN ⟨2, ![a, b]⟩ ⟨2, ![A, B]⟩ kN) (r : Fin a) (k : Fin b) :
    Layout.blockN ⟨2, ![a, b]⟩ ⟨2, ![A, B]⟩ j v h (ix2 r k) = ext v ((j 0).val * a + r.val) ((j 1).val * b + k.val) := by
  have e := ext_val v (h.idx j (ix2 r k) 0) (h.idx j (ix2 r k) 1)
  exact (congrArg v (eq_ix2 _)).trans e.symm

/-- The product of `n` columns by `n` rows, starting at `o`. -/
def dotFrom (o n : ℕ) (A B : Mat) (r c : ℕ) : EReal := ∑ k ∈ Finset.range n, A r (o + k) * B (o + k) c

/-- Two neighbouring partial products are one. -/
theorem dotFrom_join {o o' n n' s : ℕ} (ho : o' = o + n) (hs : s = n + n') (A B : Mat) (r c : ℕ) :
    dotFrom o n A B r c + dotFrom o' n' A B r c = dotFrom o s A B r c := by
  subst ho hs
  unfold dotFrom
  rw [Finset.sum_range_add]
  simp only [Nat.add_assoc]

/-- The two halves of a product, in either order: the half a device holds by its coordinate `i` and the other. -/
theorem dotFrom_halves {i : ℕ} (hi : i < 2) (n s : ℕ) (hs : s = n + n) (A B : Mat) (r c : ℕ) :
    dotFrom (n * i) n A B r c + dotFrom (n * ((i + 1) % 2)) n A B r c = dotFrom 0 s A B r c := by
  obtain rfl | rfl : i = 0 ∨ i = 1 := by omega
  · exact dotFrom_join (by simp) hs A B r c
  · rw [add_comm]; exact dotFrom_join (by simp) hs A B r c

/-- The hidden activations of a layer, -/
def hidM (X W : Mat) : Mat := fun r c => max (dotFrom 0 4096 X W r c) 0
/-- and its result. -/
def layM (X W V : Mat) : Mat := fun r c => dotFrom 0 8192 (hidM X W) V r c

/-- A product of two arrays is their product by natural coordinates. -/
theorem dot_ext {M K N : ℕ} (A : FVec Ideal ⟨2, ![M, K]⟩ .f32) (B : FVec Ideal ⟨2, ![K, N]⟩ .f32) (r : Fin M) (c : Fin N) :
    Host.dotGeneral (DotDims.plain M K N) none A B (ix2 r c) = dotFrom 0 K (ext A) (ext B) r.val c.val := by
  rw [Idealize.ShloMosaic.StackMember.dotGeneral_plain_apply]
  unfold dotFrom
  rw [Finset.sum_range]
  refine Finset.sum_congr rfl fun k _ => ?_
  rw [Nat.zero_add, ext_val, ext_val]

/-- Products of matrices that agree where they are read agree. -/
theorem dotFrom_congr {o n : ℕ} {A A' B B' : Mat} {r c : ℕ} (hA : ∀ k < n, A r (o + k) = A' r (o + k)) (hB : ∀ k < n, B (o + k) c = B' (o + k) c) :
    dotFrom o n A B r c = dotFrom o n A' B' r c :=
  Finset.sum_congr rfl fun k hk => by rw [hA k (Finset.mem_range.1 hk), hB k (Finset.mem_range.1 hk)]

/-- A product by a block of 512 rows, into zeros, is a partial product of whatever the two operands are parts of. -/
theorem matmul_part {M N : ℕ} {φ : FTy} (A B : Mat) (o q : ℕ) (a : FVec Ideal ⟨2, ![M, 512]⟩ φ) (w : FVec Ideal ⟨2, ![512, N]⟩ φ)
    (ha : ∀ r k, a (ix2 r k) = A r.val (o + k.val)) (hw : ∀ k c, w (ix2 k c) = B (o + k.val) (q + c.val)) (r : Fin M) (c : Fin N) :
    FloatOps.matmul (DotDims.plain M 512 N) none a w (constant ⟨2, ![M, N]⟩ .f32 0x00000000#32) (ix2 r c) = dotFrom o 512 A B r.val (q + c.val) := by
  rw [Ideal.matmul_plain_apply]
  have h0 : (constant ⟨2, ![M, N]⟩ .f32 0x00000000#32 : FVec Ideal ⟨2, ![M, N]⟩ .f32) (ix2 r c) = 0 := Ideal.ofBits_zero_f32
  rw [h0, zero_add]
  unfold dotFrom
  rw [Finset.sum_range]
  exact Finset.sum_congr rfl fun k _ => by rw [ha, hw]

/-- An index of the shape [1, a, b]. -/
theorem one_ix3 {a b : ℕ} (i : Fin 1) (r : Fin a) (k : Fin b) : (ix3 i r k : (⟨3, ![1, a, b]⟩ : Shape).Idx) = ix3 (0 : Fin 1) r k := by
  rw [Subsingleton.elim i 0]

end Cert.Val

end
-- ==== Proof.KernelIdeal.Value.lean ====
/-
  What the devices compute, on extended reals: each layer's operand on a device is its block of the reference's.

  The devices are the 2 × 2 mesh, device `c` at (`c / 2`, `c % 2`).  A left operand is cut along its columns by the
  second coordinate; the first weights by the second along their rows and by the first along their columns; the
  second weights the other way round.  A device's partial sum and its partner's are the two halves of one product.
-/
module

public import proofs.«01_k».proof.Proof.KernelIdeal.Body
public import proofs.«01_k».proof.Proof.Value.Matrix

@[expose] public section

noncomputable section

namespace Cert.KernelIdeal.Body

open Cert.KernelIdeal Cert.KernelIdeal.Gen Cert.Val
open Idealize.ShloMosaic Idealize.ShloMosaic.TcCoe Idealize.ShloMosaic.ValueIdx
open scoped BigOperators

variable (m : (ℓ : Loc nD τ sig) → Buf (Elt Ideal) ℓ)

/-! ## The chunks -/

/-- Device `c`'s first weights of layer `l`, -/
def inW (c : Dev nD) (l : ℕ) : S2048x4096.Idx → EReal :=
  match l with
  | 0 => m ((c : Thread nD τ).loc main_arg1)
  | 1 => m ((c : Thread nD τ).loc main_arg3)
  | _ => m ((c : Thread nD τ).loc main_arg5)
/-- and its second. -/
def outW (c : Dev nD) (l : ℕ) : S4096x2048.Idx → EReal :=
  match l with
  | 0 => m ((c : Thread nD τ).loc main_arg2)
  | 1 => m ((c : Thread nD τ).loc main_arg4)
  | _ => m ((c : Thread nD τ).loc main_arg6)

/-- Where a chunk's element is in the first weights. -/
theorem in_emb (i : Fin 4) (i' : Fin 2) (k : Fin 512) (j : Fin 2048) :
    (inSrcRect i i').emb (ix2 k j) = (ix2 ⟨512 * i.val + k.val, by omega⟩ ⟨2048 * i'.val + j.val, by omega⟩ : S2048x4096.Idx) := by
  funext a; apply Fin.ext
  match a with
  | ⟨0, _⟩ => show 512 * i.val + 1 * k.val = 512 * i.val + k.val; omega
  | ⟨1, _⟩ => show 2048 * i'.val + 1 * j.val = 2048 * i'.val + j.val; omega
/-- Reading a chunk of the first weights of layer `l` through its view. -/
theorem in_read (c : Dev nD) (l : ℕ) (i : Fin 4) (i' : Fin 2) (k : Fin 512) (j : Fin 2048) :
    ((inArr l).slice (inSrcRect i i') (fun _ => rfl)).view.read (Elt Ideal) (m (((inArr l).slice (inSrcRect i i') (fun _ => rfl)).view.loc (c : Thread nD τ))) (ix2 k j)
      = inW m c l (ix2 ⟨512 * i.val + k.val, by omega⟩ ⟨2048 * i'.val + j.val, by omega⟩) := by
  match l with
  | 0 => exact congrArg (m ((c : Thread nD τ).loc main_arg1)) (in_emb i i' k j)
  | 1 => exact congrArg (m ((c : Thread nD τ).loc main_arg3)) (in_emb i i' k j)
  | _ + 2 => exact congrArg (m ((c : Thread nD τ).loc main_arg5)) (in_emb i i' k j)

/-- A chunk of the first weights is 512 rows and 2048 columns of them. -/
theorem inLd_apply (c : Dev nD) (g : ℕ) (k : Fin 512) (j : Fin 2048) :
    inLd m c g (ix3 (0 : Fin 1) k j)
      = inW m c (g / 8) (ix2 ⟨512 * (inRow g).val + k.val, by have := (inRow g).isLt; omega⟩ ⟨2048 * (inCol g).val + j.val, by have := (inCol g).isLt; omega⟩) := by
  have e : (Shape.reshapeEquiv squeezes_S1x512x2048_S512x2048.numel_eq).symm (ix3 (0 : Fin 1) k j) = (ix2 k j : S512x2048.Idx) :=
    (Equiv.symm_apply_eq _).2 (reshapeEquiv_ix2_1ab _ k j).symm
  unfold inLd
  rw [e]
  exact in_read m c (g / 8) (inRow g) (inCol g) k j

/-- Where a chunk's element is in the second weights. -/
theorem out_emb (i : Fin 8) (i' : Fin 2) (k : Fin 512) (j : Fin 1024) :
    (outSrcRect i i').emb (ix2 k j) = (ix2 ⟨512 * i.val + k.val, by omega⟩ ⟨1024 * i'.val + j.val, by omega⟩ : S4096x2048.Idx) := by
  funext a; apply Fin.ext
  match a with
  | ⟨0, _⟩ => show 512 * i.val + 1 * k.val = 512 * i.val + k.val; omega
  | ⟨1, _⟩ => show 1024 * i'.val + 1 * j.val = 1024 * i'.val + j.val; omega
/-- Reading a chunk of the second weights of layer `l` through its view. -/
theorem out_read (c : Dev nD) (l : ℕ) (i : Fin 8) (i' : Fin 2) (k : Fin 512) (j : Fin 1024) :
    ((outArr l).slice (outSrcRect i i') (fun _ => rfl)).view.read (Elt Ideal) (m (((outArr l).slice (outSrcRect i i') (fun _ => rfl)).view.loc (c : Thread nD τ))) (ix2 k j)
      = outW m c l (ix2 ⟨512 * i.val + k.val, by omega⟩ ⟨1024 * i'.val + j.val, by omega⟩) := by
  match l with
  | 0 => exact congrArg (m ((c : Thread nD τ).loc main_arg2)) (out_emb i i' k j)
  | 1 => exact congrArg (m ((c : Thread nD τ).loc main_arg4)) (out_emb i i' k j)
  | _ + 2 => exact congrArg (m ((c : Thread nD τ).loc main_arg6)) (out_emb i i' k j)

/-- A chunk of the second weights is 512 rows and 1024 columns of them. -/
theorem outLd_apply (c : Dev nD) (g : ℕ) (k : Fin 512) (j : Fin 1024) :
    outLd m c g (ix3 (0 : Fin 1) k j)
      = outW m c (g / 16) (ix2 ⟨512 * (outRow g).val + k.val, by have := (outRow g).isLt; omega⟩ ⟨1024 * (outCol g).val + j.val, by have := (outCol g).isLt; omega⟩) := by
  have e : (Shape.reshapeEquiv squeezes_S1x512x1024_S512x1024.numel_eq).symm (ix3 (0 : Fin 1) k j) = (ix2 k j : S512x1024.Idx) :=
    (Equiv.symm_apply_eq _).2 (reshapeEquiv_ix2_1ab _ k j).symm
  unfold outLd
  rw [e]
  exact out_read m c (g / 16) (outRow g) (outCol g) k j

/-! ## One product -/

/-- A left operand by a chunk of the first weights: a partial product over 512. -/
theorem inDot_part (A B : Mat) (o q : ℕ) (a : FVec Ideal S64x512 .bf16) (w : Vec Ideal S1x512x2048 .f32)
    (ha : ∀ r k, a (ix2 r k) = A r.val (o + k.val)) (hw : ∀ k j, w (ix3 (0 : Fin 1) k j) = B (o + k.val) (q + j.val)) (r : Fin 64) (j : Fin 2048) :
    inDot a w (ix2 r j) = dotFrom o 512 A B r.val (q + j.val) :=
  matmul_part A B o q a _ ha (fun k j => (shapeCast_1ab_ab_apply w shapeCasts_S1x512x2048_S512x2048 k j).trans (hw k j)) r j
/-- A left operand by a chunk of the second weights. -/
theorem outDot_part (A B : Mat) (o q : ℕ) (a : FVec Ideal S64x512 .bf16) (w : Vec Ideal S1x512x1024 .f32)
    (ha : ∀ r k, a (ix2 r k) = A r.val (o + k.val)) (hw : ∀ k j, w (ix3 (0 : Fin 1) k j) = B (o + k.val) (q + j.val)) (r : Fin 64) (j : Fin 1024) :
    outDot a w (ix2 r j) = dotFrom o 512 A B r.val (q + j.val) :=
  matmul_part A B o q a _ ha (fun k j => (shapeCast_1ab_ab_apply w shapeCasts_S1x512x1024_S512x1024 k j).trans (hw k j)) r j

/-- A piece of a matrix of 2048 columns. -/
theorem piece_apply (A : Mat) (o : ℕ) (v : FVec Ideal S64x2048 .bf16) (hv : ∀ r k, v (ix2 r k) = A r.val (o + k.val)) (r : Fin 64) (k : Fin 512) :
    piece0 v (ix2 r k) = A r.val (o + k.val) ∧ piece1 v (ix2 r k) = A r.val (o + 512 + k.val)
      ∧ piece2 v (ix2 r k) = A r.val (o + 1024 + k.val) ∧ piece3 v (ix2 r k) = A r.val (o + 1536 + k.val) := by
  refine ⟨?_, ?_, ?_, ?_⟩
  · exact (slice2_axis1_apply 0 v _ r k ⟨k.val, by omega⟩ (Nat.zero_add _).symm).trans (hv r _)
  · exact (slice2_axis1_apply 512 v _ r k ⟨512 + k.val, by omega⟩ rfl).trans ((hv r _).trans (by rw [Nat.add_assoc]))
  · exact (slice2_axis1_apply 1024 v _ r k ⟨1024 + k.val, by omega⟩ rfl).trans ((hv r _).trans (by rw [Nat.add_assoc]))
  · exact (slice2_axis1_apply 1536 v _ r k ⟨1536 + k.val, by omega⟩ rfl).trans ((hv r _).trans (by rw [Nat.add_assoc]))
/-- A half of a matrix of 1024 columns. -/
theorem two_apply (A : Mat) (o : ℕ) (v : FVec Ideal S64x1024 .f32) (hv : ∀ r k, v (ix2 r k) = A r.val (o + k.val)) (r : Fin 64) (k : Fin 512) :
    (twoOf v).1 (ix2 r k) = A r.val (o + k.val) ∧ (twoOf v).2 (ix2 r k) = A r.val (o + 512 + k.val) := by
  refine ⟨?_, ?_⟩
  · exact (slice2_axis1_apply 0 (truncf .bf16 v bitsLt_bf16_f32 : FVec Ideal S64x1024 .bf16) slices_S64x1024_o0_0_S64x512 r k ⟨k.val, by omega⟩ (Nat.zero_add _).symm).trans (hv r _)
  · exact (slice2_axis1_apply 512 (truncf .bf16 v bitsLt_bf16_f32 : FVec Ideal S64x1024 .bf16) slices_S64x1024_o0_512_S64x512 r k ⟨512 + k.val, by omega⟩ rfl).trans
      ((hv r _).trans (by rw [Nat.add_assoc]))

/-- Where the partner along the second axis is. -/
theorem py_at (c : Dev nD) : (py c).val % 2 = (c.val % 2 + 1) % 2 ∧ (py c).val / 2 = c.val / 2 := by revert c; decide

/-- Where the partner along the first axis is. -/
theorem px_at (c : Dev nD) : (px c).val / 2 = (c.val / 2 + 1) % 2 ∧ (px c).val % 2 = c.val % 2 := by revert c; decide

/-! ## A layer -/

/-- The devices' operands are the blocks of `X`. -/
def OpndIs (X : Mat) (op : Opnd Ideal) : Prop := ∀ (c : Dev nD) (r : Fin 64) (k : Fin 512),
  (op c).1.1 (ix2 r k) = X r.val (2048 * (c.val % 2) + k.val) ∧ (op c).1.2 (ix2 r k) = X r.val (2048 * (c.val % 2) + 512 + k.val)
  ∧ (op c).2.1 (ix2 r k) = X r.val (2048 * (c.val % 2) + 1024 + k.val) ∧ (op c).2.2 (ix2 r k) = X r.val (2048 * (c.val % 2) + 1536 + k.val)

/-- The devices' first weights of layer `l` are the blocks of `W`, -/
def InIs (l : ℕ) (W : Mat) : Prop := ∀ (c : Dev nD) (i : Fin 2048) (j : Fin 4096),
  inW m c l (ix2 i j) = W (2048 * (c.val % 2) + i.val) (4096 * (c.val / 2) + j.val)
/-- and their second of `V`. -/
def OutIs (l : ℕ) (V : Mat) : Prop := ∀ (c : Dev nD) (i : Fin 4096) (j : Fin 2048),
  outW m c l (ix2 i j) = V (4096 * (c.val / 2) + i.val) (2048 * (c.val % 2) + j.val)

section Layer

variable {m} {l : ℕ} {X W V : Mat} {op : Opnd Ideal} (hX : OpndIs X op) (hW : InIs m l W) (hV : OutIs m l V)

include hW in
/-- Chunk `i` of pass `j` over the first weights, by the coordinates of the whole. -/
theorem in_chunk (j i g : ℕ) (hj : j < 2) (hi : i < 4) (hg : g = 8 * l + 4 * j + i) (c : Dev nD) (k : Fin 512) (h : Fin 2048) :
    inLd m c g (ix3 (0 : Fin 1) k h) = W (2048 * (c.val % 2) + 512 * i + k.val) (4096 * (c.val / 2) + 2048 * j + h.val) := by
  have e1 : (inRow g).val = i := by show g % 4 = i; omega
  have e2 : (inCol g).val = j := by show g / 4 % 2 = j; omega
  have e3 : g / 8 = l := by omega
  rw [inLd_apply, e3]
  refine (hW c _ _).trans ?_
  simp only [e1, e2, Nat.add_assoc]
include hV in
/-- Chunk `i` of pass `j` over the second weights, by the coordinates of the whole. -/
theorem out_chunk (j i g : ℕ) (hj : j < 2) (hi : i < 8) (hg : g = 16 * l + 8 * j + i) (c : Dev nD) (k : Fin 512) (h : Fin 1024) :
    outLd m c g (ix3 (0 : Fin 1) k h) = V (4096 * (c.val / 2) + 512 * i + k.val) (2048 * (c.val % 2) + 1024 * j + h.val) := by
  have e1 : (outRow g).val = i := by show g % 8 = i; omega
  have e2 : (outCol g).val = j := by show g / 8 % 2 = j; omega
  have e3 : g / 16 = l := by omega
  rw [outLd_apply, e3]
  refine (hV c _ _).trans ?_
  simp only [e1, e2, Nat.add_assoc]

include hX hW in
/-- A device's partial sum of the hidden activations is its half of the product. -/
theorem yPart_eq (j : ℕ) (hj : j < 2) (c : Dev nD) (r : Fin 64) (h : Fin 2048) :
    yPartOf m l j op c (ix2 r h) = dotFrom (2048 * (c.val % 2)) 2048 X W r.val (4096 * (c.val / 2) + 2048 * j + h.val) := by
  have d0 := inDot_part X W (2048 * (c.val % 2)) (4096 * (c.val / 2) + 2048 * j) _ _ (fun r k => (hX c r k).1) (in_chunk hW j 0 _ hj (by omega) rfl c) r h
  have d1 := inDot_part X W (2048 * (c.val % 2) + 512) (4096 * (c.val / 2) + 2048 * j) _ _ (fun r k => (hX c r k).2.1) (in_chunk hW j 1 _ hj (by omega) rfl c) r h
  have d2 := inDot_part X W (2048 * (c.val % 2) + 1024) (4096 * (c.val / 2) + 2048 * j) _ _ (fun r k => (hX c r k).2.2.1) (in_chunk hW j 2 _ hj (by omega) rfl c) r h
  have d3 := inDot_part X W (2048 * (c.val % 2) + 1536) (4096 * (c.val / 2) + 2048 * j) _ _ (fun r k => (hX c r k).2.2.2) (in_chunk hW j 3 _ hj (by omega) rfl c) r h
  refine (congrArg₂ (· + ·) (congrArg₂ (· + ·) (congrArg₂ (· + ·) d0 d1) d2) d3).trans ?_
  rw [dotFrom_join rfl (rfl : 1024 = _), dotFrom_join rfl (rfl : 1536 = _), dotFrom_join rfl (rfl : 2048 = _)]

include hX hW in
/-- With the partner's it is the whole product: the hidden activations are a block of the reference's. -/
theorem hid_eq (j : ℕ) (hj : j < 2) (c : Dev nD) (r : Fin 64) (h : Fin 2048) :
    hidOf m l j op c (ix2 r h) = hidM X W r.val (4096 * (c.val / 2) + 2048 * j + h.val) := by
  have e1 := shapeCast_1ab_ab_apply (ySndOf m l j op c) shapeCasts_S1x64x2048_S64x2048 r h
  have e2 := shapeCast_1ab_ab_apply (ySndOf m l j op (py c)) shapeCasts_S1x64x2048_S64x2048 r h
  have e3 := shapeCast_ab_1ab_apply (truncf .bf16 (yPartOf m l j op c) bitsLt_bf16_f32 : FVec Ideal S64x2048 .bf16) shapeCasts_S64x2048_S1x64x2048 0 r h
  have e4 := shapeCast_ab_1ab_apply (truncf .bf16 (yPartOf m l j op (py c)) bitsLt_bf16_f32 : FVec Ideal S64x2048 .bf16) shapeCasts_S64x2048_S1x64x2048 0 r h
  obtain ⟨p1, p2⟩ := py_at c
  have y2 := yPart_eq hX hW j hj (py c) r h
  rw [p1, p2] at y2
  refine (congrArg₂ max (congrArg₂ (· + ·) (e1.trans (e3.trans (yPart_eq hX hW j hj c r h))) (e2.trans (e4.trans y2))) Ideal.ofBits_zero_f32).trans ?_
  unfold hidM
  rw [dotFrom_halves (Nat.mod_lt _ (by decide)) 2048 4096 rfl]

include hX hW hV in
/-- A device's partial sum of the result is its half of the product. -/
theorem xPart_eq (j : ℕ) (hj : j < 2) (c : Dev nD) (r : Fin 64) (h : Fin 1024) :
    xPartOf m l j op c (ix2 r h) = dotFrom (4096 * (c.val / 2)) 4096 (hidM X W) V r.val (2048 * (c.val % 2) + 1024 * j + h.val) := by
  have p := piece_apply (hidM X W) (4096 * (c.val / 2)) (hidOf m l 0 op c) (hid_eq hX hW 0 (by decide) c)
  have p' := piece_apply (hidM X W) (4096 * (c.val / 2) + 2048) (hidOf m l 1 op c) (hid_eq hX hW 1 (by decide) c)
  have d0 := outDot_part (hidM X W) V (4096 * (c.val / 2)) (2048 * (c.val % 2) + 1024 * j) _ _ (fun r k => (p r k).1) (out_chunk hV j 0 _ hj (by omega) rfl c) r h
  have d1 := outDot_part (hidM X W) V (4096 * (c.val / 2) + 512) (2048 * (c.val % 2) + 1024 * j) _ _ (fun r k => (p r k).2.1) (out_chunk hV j 1 _ hj (by omega) rfl c) r h
  have d2 := outDot_part (hidM X W) V (4096 * (c.val / 2) + 1024) (2048 * (c.val % 2) + 1024 * j) _ _ (fun r k => (p r k).2.2.1) (out_chunk hV j 2 _ hj (by omega) rfl c) r h
  have d3 := outDot_part (hidM X W) V (4096 * (c.val / 2) + 1536) (2048 * (c.val % 2) + 1024 * j) _ _ (fun r k => (p r k).2.2.2) (out_chunk hV j 3 _ hj (by omega) rfl c) r h
  have d4 := outDot_part (hidM X W) V (4096 * (c.val / 2) + 2048) (2048 * (c.val % 2) + 1024 * j) _ _ (fun r k => (p' r k).1) (out_chunk hV j 4 _ hj (by omega) rfl c) r h
  have d5 := outDot_part (hidM X W) V (4096 * (c.val / 2) + 2560) (2048 * (c.val % 2) + 1024 * j) _ _ (fun r k => (p' r k).2.1) (out_chunk hV j 5 _ hj (by omega) rfl c) r h
  have d6 := outDot_part (hidM X W) V (4096 * (c.val / 2) + 3072) (2048 * (c.val % 2) + 1024 * j) _ _ (fun r k => (p' r k).2.2.1) (out_chunk hV j 6 _ hj (by omega) rfl c) r h
  have d7 := outDot_part (hidM X W) V (4096 * (c.val / 2) + 3584) (2048 * (c.val % 2) + 1024 * j) _ _ (fun r k => (p' r k).2.2.2) (out_chunk hV j 7 _ hj (by omega) rfl c) r h
  refine (congrArg₂ (· + ·) (congrArg₂ (· + ·) (congrArg₂ (· + ·) (congrArg₂ (· + ·) (congrArg₂ (· + ·) (congrArg₂ (· + ·) (congrArg₂ (· + ·) d0 d1) d2) d3) d4) d5) d6) d7).trans ?_
  rw [dotFrom_join rfl (rfl : 1024 = _), dotFrom_join rfl (rfl : 1536 = _), dotFrom_join rfl (rfl : 2048 = _), dotFrom_join rfl (rfl : 2560 = _),
    dotFrom_join rfl (rfl : 3072 = _), dotFrom_join rfl (rfl : 3584 = _), dotFrom_join rfl (rfl : 4096 = _)]

include hX hW hV in
/-- With the partner's it is the whole product: the layer's result is a block of the reference's. -/
theorem res_eq (j : ℕ) (hj : j < 2) (c : Dev nD) (r : Fin 64) (h : Fin 1024) :
    resOf m l j op c (ix2 r h) = layM X W V r.val (2048 * (c.val % 2) + 1024 * j + h.val) := by
  have e1 := shapeCast_1ab_ab_apply (xSndOf m l j op c) shapeCasts_S1x64x1024_S64x1024 r h
  have e2 := shapeCast_1ab_ab_apply (xSndOf m l j op (px c)) shapeCasts_S1x64x1024_S64x1024 r h
  have e3 := shapeCast_ab_1ab_apply (truncf .bf16 (xPartOf m l j op c) bitsLt_bf16_f32 : FVec Ideal S64x1024 .bf16) shapeCasts_S64x1024_S1x64x1024 0 r h
  have e4 := shapeCast_ab_1ab_apply (truncf .bf16 (xPartOf m l j op (px c)) bitsLt_bf16_f32 : FVec Ideal S64x1024 .bf16) shapeCasts_S64x1024_S1x64x1024 0 r h
  obtain ⟨p1, p2⟩ := px_at c
  have y2 := xPart_eq hX hW hV j hj (px c) r h
  rw [p1, p2] at y2
  refine (congrArg₂ (· + ·) (e1.trans (e3.trans (xPart_eq hX hW hV j hj c r h))) (e2.trans (e4.trans y2))).trans ?_
  unfold layM
  rw [dotFrom_halves (by have : c.val < 4 := c.isLt; omega) 4096 8192 rfl]

include hX hW hV in
/-- And the next layer's operands are the blocks of this one's result. -/
theorem next_is : OpndIs (layM X W V) (fun c => (twoOf (resOf m l 0 op c), twoOf (resOf m l 1 op c))) := fun c r k =>
  have t := two_apply (layM X W V) (2048 * (c.val % 2)) _ (res_eq hX hW hV 0 (by decide) c) r k
  have t' := two_apply (layM X W V) (2048 * (c.val % 2) + 1024) _ (res_eq hX hW hV 1 (by decide) c) r k
  ⟨t.1, t.2, t'.1, t'.2⟩

end Layer

/-! ## The three layers -/

/-- The first layer's operands are the blocks of the input. -/
theorem first_is (X : Mat) (hx : ∀ (c : Dev nD) (r : Fin 64) (k : Fin 2048), xBlk m c (ix2 r k) = X r.val (2048 * (c.val % 2) + k.val)) :
    OpndIs X (opnd m 0) := fun c r k => by
  refine piece_apply X (2048 * (c.val % 2)) (actOf (xBlk m c)) (fun r k => ?_) r k
  exact (congrFun (shapeCast_self (xBlk m c) shapeCasts_S64x2048_S64x2048) (ix2 r k)).trans (hx c r k)

/-- Device `c`'s result is its block of the three layers' result. -/
theorem outAt_eq (X W0 V0 W1 V1 W2 V2 : Mat) (hx : ∀ (c : Dev nD) (r : Fin 64) (k : Fin 2048), xBlk m c (ix2 r k) = X r.val (2048 * (c.val % 2) + k.val))
    (hW0 : InIs m 0 W0) (hV0 : OutIs m 0 V0) (hW1 : InIs m 1 W1) (hV1 : OutIs m 1 V1) (hW2 : InIs m 2 W2) (hV2 : OutIs m 2 V2)
    (c : Dev nD) (r : Fin 64) (k : Fin 2048) :
    outAt m c (ix2 r k) = layM (layM (layM X W0 V0) W1 V1) W2 V2 r.val (2048 * (c.val % 2) + k.val) := by
  have h2 : OpndIs (layM (layM X W0 V0) W1 V1) (opnd m 2) := next_is (next_is (first_is m X hx) hW0 hV0) hW1 hV1
  have hi : ∀ q : Fin 1024, q.val = k.val % 1024 → halfIdx (ix2 r k) = ix2 r q := fun q hq => by
    funext a; apply Fin.ext
    match a with
    | ⟨0, _⟩ => rfl
    | ⟨1, _⟩ => exact hq.symm
  unfold outAt
  by_cases hk : k.val < 1024
  · rw [if_pos hk, hi ⟨k.val, hk⟩ (by show k.val = k.val % 1024; omega)]
    exact res_eq h2 hW2 hV2 0 (by decide) c r _
  · rw [if_neg hk, hi ⟨k.val - 1024, by omega⟩ (by show k.val - 1024 = k.val % 1024; omega)]
    refine (res_eq h2 hW2 hV2 1 (by decide) c r _).trans (congrArg _ ?_)
    show 2048 * (c.val % 2) + 1024 * 1 + (k.val - 1024) = _
    omega

end Cert.KernelIdeal.Body

end
-- ==== Proof.Value.Reference.lean ====
/-
  The reference's three layers by natural coordinates, and the kernel's result as the blocks of theirs.
-/
module

public import proofs.«01_k».proof.Proof.KernelIdeal.Value
public import proofs.«01_k».proof.Proof.KernelIdeal.End
public import proofs.«01_k».proof.Proof.Gen.ReferenceIdeal.Run

@[expose] public section

noncomputable section

namespace Cert.Val

open Idealize.ShloMosaic Idealize.ShloMosaic.TcCoe Idealize.ShloMosaic.ValueIdx Idealize.SL.Sem
open Cert.ReferenceIdeal Cert.ReferenceIdeal.Gen

/-- Two matrices agree on the array's places. -/
theorem ext_eq_of {a b : ℕ} (v : (⟨2, ![a, b]⟩ : Shape).Idx → EReal) (A : Mat) (h : ∀ r k, v (ix2 r k) = A r.val k.val) {r k : ℕ}
    (hr : r < a) (hk : k < b) : ext v r k = A r k := (ext_val v ⟨r, hr⟩ ⟨k, hk⟩).trans (h _ _)

/-- One layer of the reference. -/
def refLayer (x : FVec Ideal S64x4096 .f32) (w : FVec Ideal S4096x8192 .f32) (v : FVec Ideal S8192x4096 .f32) : FVec Ideal S64x4096 .f32 :=
  Host.dotGeneral dot_S64x8192_S8192x4096_S64x4096_1_0_0_1_n_n none
    (maximumf (Host.dotGeneral dot_S64x4096_S4096x8192_S64x8192_1_0_0_1_n_n none x w) (broadcastInDim S64x8192 ![] bcast_S_S64x8192 (constant S_ .f32 0x00000000#32))) v

/-- It is the layer by natural coordinates, on any matrix that agrees with its operand. -/
theorem refLayer_eq (X : Mat) (x : FVec Ideal S64x4096 .f32) (w : FVec Ideal S4096x8192 .f32) (v : FVec Ideal S8192x4096 .f32)
    (hx : ∀ r k, x (ix2 r k) = X r.val k.val) (r : Fin 64) (c : Fin 4096) :
    refLayer x w v (ix2 r c) = layM X (ext w) (ext v) r.val c.val := by
  refine (dot_ext _ v r c).trans ?_
  unfold layM
  refine dotFrom_congr (fun k hk => ?_) (fun _ _ => rfl)
  rw [Nat.zero_add]
  refine ext_eq_of _ (hidM X (ext w)) (fun r k => ?_) r.isLt hk
  unfold hidM
  refine congrArg₂ max ((dot_ext x w r k).trans (dotFrom_congr (fun i hi => ?_) (fun _ _ => rfl))) Ideal.ofBits_zero_f32
  rw [Nat.zero_add]
  exact ext_eq_of x X hx r.isLt hi

/-- The columns a block of the input or the result is of, -/
theorem at_cols (v : S64x4096.Idx → EReal) (c : Fin 4) (r : Fin 64) (k : Fin 2048) :
    Layout.blockN ⟨2, ![64, 2048]⟩ ⟨2, ![64, 4096]⟩ (Layout.meshBlock [2, 2] ![[], [1]] c) v (by decide) (ix2 r k)
      = ext v r.val (2048 * (c.val % 2) + k.val) := by
  have h : ((Layout.meshBlock [2, 2] ![[], [1]] c) 0).val = 0 ∧ ((Layout.meshBlock [2, 2] ![[], [1]] c) 1).val = c.val % 2 := by revert c; decide
  refine (ext_block _ v _ r k).trans ?_
  rw [h.1, h.2, Nat.zero_mul, Nat.zero_add, Nat.mul_comm]
/-- the rows and columns a block of the first weights is of, -/
theorem at_in (v : S4096x8192.Idx → EReal) (c : Fin 4) (i : Fin 2048) (j : Fin 4096) :
    Layout.blockN ⟨2, ![2048, 4096]⟩ ⟨2, ![4096, 8192]⟩ (Layout.meshBlock [2, 2] ![[1], [0]] c) v (by decide) (ix2 i j)
      = ext v (2048 * (c.val % 2) + i.val) (4096 * (c.val / 2) + j.val) := by
  have h : ((Layout.meshBlock [2, 2] ![[1], [0]] c) 0).val = c.val % 2 ∧ ((Layout.meshBlock [2, 2] ![[1], [0]] c) 1).val = c.val / 2 := by revert c; decide
  refine (ext_block _ v _ i j).trans ?_
  rw [h.1, h.2, Nat.mul_comm (c.val % 2), Nat.mul_comm (c.val / 2)]
/-- and of the second. -/
theorem at_out (v : S8192x4096.Idx → EReal) (c : Fin 4) (i : Fin 4096) (j : Fin 2048) :
    Layout.blockN ⟨2, ![4096, 2048]⟩ ⟨2, ![8192, 4096]⟩ (Layout.meshBlock [2, 2] ![[0], [1]] c) v (by decide) (ix2 i j)
      = ext v (4096 * (c.val / 2) + i.val) (2048 * (c.val % 2) + j.val) := by
  have h : ((Layout.meshBlock [2, 2] ![[0], [1]] c) 0).val = c.val / 2 ∧ ((Layout.meshBlock [2, 2] ![[0], [1]] c) 1).val = c.val % 2 := by revert c; decide
  refine (ext_block _ v _ i j).trans ?_
  rw [h.1, h.2, Nat.mul_comm (c.val % 2), Nat.mul_comm (c.val / 2)]

/-- From blocks of the reference's arguments, the kernel leaves on each device its block of the reference's result. -/
theorem out_block (m : (ℓ : Loc Cert.KernelIdeal.nD Cert.KernelIdeal.τ Cert.KernelIdeal.sig) → Buf (Elt Ideal) ℓ)
    (x : FVec Ideal S64x4096 .f32) (w0 w1 w2 : FVec Ideal S4096x8192 .f32) (v0 v1 v2 : FVec Ideal S8192x4096 .f32)
    (hx : ∀ c : Dev Cert.KernelIdeal.nD, m ((c.tc : Thread Cert.KernelIdeal.nD Cert.KernelIdeal.τ).loc Cert.KernelIdeal.main_arg0)
      = Layout.blockN ⟨2, ![64, 2048]⟩ ⟨2, ![64, 4096]⟩ (Layout.meshBlock [2, 2] ![[], [1]] c) x)
    (hw0 : ∀ c : Dev Cert.KernelIdeal.nD, m ((c.tc : Thread Cert.KernelIdeal.nD Cert.KernelIdeal.τ).loc Cert.KernelIdeal.main_arg1)
      = Layout.blockN ⟨2, ![2048, 4096]⟩ ⟨2, ![4096, 8192]⟩ (Layout.meshBlock [2, 2] ![[1], [0]] c) w0)
    (hv0 : ∀ c : Dev Cert.KernelIdeal.nD, m ((c.tc : Thread Cert.KernelIdeal.nD Cert.KernelIdeal.τ).loc Cert.KernelIdeal.main_arg2)
      = Layout.blockN ⟨2, ![4096, 2048]⟩ ⟨2, ![8192, 4096]⟩ (Layout.meshBlock [2, 2] ![[0], [1]] c) v0)
    (hw1 : ∀ c : Dev Cert.KernelIdeal.nD, m ((c.tc : Thread Cert.KernelIdeal.nD Cert.KernelIdeal.τ).loc Cert.KernelIdeal.main_arg3)
      = Layout.blockN ⟨2, ![2048, 4096]⟩ ⟨2, ![4096, 8192]⟩ (Layout.meshBlock [2, 2] ![[1], [0]] c) w1)
    (hv1 : ∀ c : Dev Cert.KernelIdeal.nD, m ((c.tc : Thread Cert.KernelIdeal.nD Cert.KernelIdeal.τ).loc Cert.KernelIdeal.main_arg4)
      = Layout.blockN ⟨2, ![4096, 2048]⟩ ⟨2, ![8192, 4096]⟩ (Layout.meshBlock [2, 2] ![[0], [1]] c) v1)
    (hw2 : ∀ c : Dev Cert.KernelIdeal.nD, m ((c.tc : Thread Cert.KernelIdeal.nD Cert.KernelIdeal.τ).loc Cert.KernelIdeal.main_arg5)
      = Layout.blockN ⟨2, ![2048, 4096]⟩ ⟨2, ![4096, 8192]⟩ (Layout.meshBlock [2, 2] ![[1], [0]] c) w2)
    (hv2 : ∀ c : Dev Cert.KernelIdeal.nD, m ((c.tc : Thread Cert.KernelIdeal.nD Cert.KernelIdeal.τ).loc Cert.KernelIdeal.main_arg6)
      = Layout.blockN ⟨2, ![4096, 2048]⟩ ⟨2, ![8192, 4096]⟩ (Layout.meshBlock [2, 2] ![[0], [1]] c) v2)
    (c : Dev Cert.KernelIdeal.nD) :
    Cert.KernelIdeal.Body.outAt m c
      = Layout.blockN ⟨2, ![64, 2048]⟩ ⟨2, ![64, 4096]⟩ (Layout.meshBlock [2, 2] ![[], [1]] c) (refLayer (refLayer (refLayer x w0 v0) w1 v1) w2 v2) := by
  funext i
  obtain ⟨r, k, rfl⟩ : ∃ (r : Fin 64) (k : Fin 2048), i = ix2 r k := ⟨i 0, i 1, eq_ix2 i⟩
  have e := Cert.KernelIdeal.Body.outAt_eq m (ext x) (ext w0) (ext v0) (ext w1) (ext v1) (ext w2) (ext v2)
    (fun c r k => (congrFun ((Cert.KernelIdeal.Body.xBlk_eq m c).trans (hx c)) (ix2 r k)).trans (at_cols x c r k))
    (fun c i j => (congrFun (hw0 c) (ix2 i j)).trans (at_in w0 c i j)) (fun c i j => (congrFun (hv0 c) (ix2 i j)).trans (at_out v0 c i j))
    (fun c i j => (congrFun (hw1 c) (ix2 i j)).trans (at_in w1 c i j)) (fun c i j => (congrFun (hv1 c) (ix2 i j)).trans (at_out v1 c i j))
    (fun c i j => (congrFun (hw2 c) (ix2 i j)).trans (at_in w2 c i j)) (fun c i j => (congrFun (hv2 c) (ix2 i j)).trans (at_out v2 c i j)) c r k
  refine e.trans (((at_cols _ c r k).trans ?_).symm)
  refine ext_eq_of _ _ ?_ r.isLt (by omega)
  exact refLayer_eq _ _ w2 v2 (refLayer_eq _ _ w1 v1 (refLayer_eq (ext x) x w0 v0 fun r k => (ext_val x r k).symm))

end Cert.Val

end
-- ==== Proof.lean ====
module

public import proofs.«01_k».proof.Defs
public import proofs.«01_k».proof.Proof.Kernel.End
public import proofs.«01_k».proof.Proof.KernelIdeal.End
public import proofs.«01_k».proof.Proof.Value.Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel terminates, its arguments unchanged and every semaphore counter at zero, on words -/
theorem frame_kernel : Cert.quiescent_Kernel := fun m g _ =>
  (θ_run Cert.Kernel.defs _ _).mono (fun _ h => ⟨fun c => ⟨(h.1 c).2.1, (h.1 c).2.2⟩, h.2⟩) (Cert.Kernel.Body.run_end m g)
/-- and on extended reals; -/
theorem frame_ideal : Cert.quiescent_KernelIdeal := fun m g _ =>
  (θ_run Cert.KernelIdeal.defs _ _).mono (fun _ h => ⟨fun c => ⟨(h.1 c).2.1, (h.1 c).2.2⟩, h.2⟩) (Cert.KernelIdeal.Body.run_end m g)
/-- and so does the reference. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- Over extended reals, started on the blocks of the reference's arguments, the kernel ends with the blocks of the
    reference's result. -/
theorem value : Cert.algebraic_KernelIdeal_ReferenceIdeal := fun m g m' g' _ h =>
  ⟨Cert.Val.refLayer (Cert.Val.refLayer (Cert.Val.refLayer
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)),
    (θ_run Cert.KernelIdeal.defs _ _).mono (fun _ e c => ⟨((e.1 c).1).trans (Cert.Val.out_block m _ _ _ _ _ _ _
      (fun c => (h c).1) (fun c => (h c).2.1) (fun c => (h c).2.2.1) (fun c => (h c).2.2.2.1) (fun c => (h c).2.2.2.2.1)
      (fun c => (h c).2.2.2.2.2.1) (fun c => (h c).2.2.2.2.2.2) c), (e.1 c).2.1, (e.1 c).2.2⟩) (Cert.KernelIdeal.Body.run_end m g),
    (θ_run Cert.ReferenceIdeal.defs _ _).mono (fun _ e => e 0) (Cert.ReferenceIdeal.Value.run m' g')⟩

/-- Everything the certificate claims. -/
theorem claim : Cert.Claim := ⟨Cert.Kernel.Gen.facts, Cert.KernelIdeal.Gen.facts, Cert.ReferenceIdeal.Gen.facts,
  frame_kernel, frame_ideal, frame_reference, trivial, value⟩

end Cert.Proof

end
